-- ==== Defs.lean ====
def Pre_Kernel [hPre_finite_arrays : Cert.Pre_finite_arrays.Facts] (m : (ℓ : Loc Cert.Kernel.nD Cert.Kernel.τ Cert.Kernel.sig) → Buf (Elt Bits) ℓ) : Prop :=
  ∀ c : Dev Cert.Kernel.nD,
    (Cert.Pre_finite_arrays.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_arrays : Cert.Pre_finite_arrays.Facts] (m : (ℓ : Loc Cert.KernelIdeal.nD Cert.KernelIdeal.τ Cert.KernelIdeal.sig) → Buf (Elt Ideal) ℓ) : Prop :=
  ∀ c : Dev Cert.KernelIdeal.nD,
    (Cert.Pre_finite_arrays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_arrays : Cert.Pre_finite_arrays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_arrays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_finite_weights : Cert.Pre_finite_weights.Facts] (m : (ℓ : Loc Cert.Kernel3.nD Cert.Kernel3.τ Cert.Kernel3.sig) → Buf (Elt Bits) ℓ) : Prop :=
  ∀ c : Dev Cert.Kernel3.nD,
    (Cert.Pre_finite_weights.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2))) = (fun _ => 1#1)

def Pre_Kernel3Ideal [hPre_finite_weights : Cert.Pre_finite_weights.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal [hPre_finite_weights : Cert.Pre_finite_weights.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def quiescent_Kernel [hKernel : Cert.Kernel.Facts] [hPre_finite_arrays : Cert.Pre_finite_arrays.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_finite_arrays : Cert.Pre_finite_arrays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_finite_arrays : Cert.Pre_finite_arrays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] [hPre_finite_weights : Cert.Pre_finite_weights.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] [hPre_finite_weights : Cert.Pre_finite_weights.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  IdealRules.named_const.Statement Cert.KernelIdeal.κ "q_scale" .f32 0x3E38AA3B#32 (((1 / 8) * (Real.log 2)⁻¹ : ℝ) : EReal)

def algebraic_KernelIdeal_ReferenceIdeal [hKernelIdeal : Cert.KernelIdeal.Facts] [hReferenceIdeal : Cert.ReferenceIdeal.Facts] [hPre_finite_arrays : Cert.Pre_finite_arrays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v97) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v180) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v19)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v19) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v18)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v18) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v25) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_arrays : Cert.Pre_finite_arrays.Facts) (hPre_finite_weights : Cert.Pre_finite_weights.Facts),
    quiescent_Kernel (hKernel := hKernel) (hPre_finite_arrays := hPre_finite_arrays)
    ∧ quiescent_KernelIdeal (hKernelIdeal := hKernelIdeal) (hPre_finite_arrays := hPre_finite_arrays)
    ∧ quiescent_ReferenceIdeal (hReferenceIdeal := hReferenceIdeal) (hPre_finite_arrays := hPre_finite_arrays)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_finite_weights := hPre_finite_weights)
    ∧ quiescent_Kernel3Ideal (hKernel3Ideal := hKernel3Ideal) (hPre_finite_weights := hPre_finite_weights)
    ∧ quiescent_Reference3Ideal (hReference3Ideal := hReference3Ideal) (hPre_finite_weights := hPre_finite_weights)
    ∧ preserves_Kernel_KernelIdeal
    ∧ algebraic_KernelIdeal_ReferenceIdeal (hKernelIdeal := hKernelIdeal) (hReferenceIdeal := hReferenceIdeal) (hPre_finite_arrays := hPre_finite_arrays)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_finite_weights := hPre_finite_weights)
-- ==== Pre_finite_arrays.lean ====
abbrev S32x2048x2048 : Shape := ⟨3, ![32, 2048, 2048]⟩
abbrev S32x2048x256 : Shape := ⟨3, ![32, 2048, 256]⟩
abbrev S32x2048x128 : Shape := ⟨3, ![32, 2048, 128]⟩
abbrev S64 : Shape := ⟨1, ![64]⟩
abbrev S_ : Shape := ⟨0, ![]⟩

class Facts : Prop where
  bcast_S_S32x2048x256 : S_.BroadcastsInDim S32x2048x256 (![] : Fin 0 → Fin S32x2048x256.rank)
  reducesTo_S32x2048x256_S_d0_1_2 : S32x2048x256.ReducesTo [0, 1, 2] S_
  h_S_ : 0 < S_.numel
  bcast_S_S32x2048x128 : S_.BroadcastsInDim S32x2048x128 (![] : Fin 0 → Fin S32x2048x128.rank)
  reducesTo_S32x2048x128_S_d0_1_2 : S32x2048x128.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S32x2048x2048 .f32) (main_arg1 : FVec F S32x2048x256 .f32) (main_arg2 : FVec F S32x2048x128 .f32) (main_arg3 : FVec F S32x2048x128 .f32) (main_arg4 : FVec F S64 .f32) (main_arg5 : FVec F S64 .f32) : IVec S_ 1 :=
  let main_v0 : FVec F S32x2048x256 .f32 := Host.absf main_arg1
  let main_cst : FVec F S_ .f32 := constant S_ .f32 0x7F800000#32
  let main_v1 : FVec F S32x2048x256 .f32 := broadcastInDim S32x2048x256 ![] bcast_S_S32x2048x256 main_cst
  let main_v2 : IVec S32x2048x256 1 := cmpf .olt main_v0 main_v1
  let main_c : IVec S_ 1 := constantI S_ 1 1#1
  let main_v3 : IVec S_ 1 := (fun x v => Host.reduce IntOp.andi x v reducesTo_S32x2048x256_S_d0_1_2 h_S_) main_v2 main_c
  let main_v4 : FVec F S32x2048x128 .f32 := Host.absf main_arg2
  let main_cst_0 : FVec F S_ .f32 := constant S_ .f32 0x7F800000#32
  let main_v5 : FVec F S32x2048x128 .f32 := broadcastInDim S32x2048x128 ![] bcast_S_S32x2048x128 main_cst_0
  let main_v6 : IVec S32x2048x128 1 := cmpf .olt main_v4 main_v5
  let main_c_1 : IVec S_ 1 := constantI S_ 1 1#1
  let main_v7 : IVec S_ 1 := (fun x v => Host.reduce IntOp.andi x v reducesTo_S32x2048x128_S_d0_1_2 h_S_) main_v6 main_c_1
  let main_v8 : IVec S_ 1 := andi main_v3 main_v7
  let main_v9 : FVec F S32x2048x128 .f32 := Host.absf main_arg3
  let main_cst_2 : FVec F S_ .f32 := constant S_ .f32 0x7F800000#32
  let main_v10 : FVec F S32x2048x128 .f32 := broadcastInDim S32x2048x128 ![] bcast_S_S32x2048x128 main_cst_2
  let main_v11 : IVec S32x2048x128 1 := cmpf .olt main_v9 main_v10
  let main_c_3 : IVec S_ 1 := constantI S_ 1 1#1
  let main_v12 : IVec S_ 1 := (fun x v => Host.reduce IntOp.andi x v reducesTo_S32x2048x128_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Pre_finite_weights.lean ====
abbrev S32x2048x1024 : Shape := ⟨3, ![32, 2048, 1024]⟩
abbrev S1024 : Shape := ⟨1, ![1024]⟩
abbrev S1024x2464 : Shape := ⟨2, ![1024, 2464]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x2464 : S_.BroadcastsInDim S1024x2464 (![] : Fin 0 → Fin S1024x2464.rank)
  reducesTo_S1024x2464_S_d0_1 : S1024x2464.ReducesTo [0, 1] S_

variable [Facts]

def fn {F : FTy → Type} [FloatOps F] (main_arg0 : FVec F S32x2048x1024 .f32) (main_arg1 : FVec F S1024 .f32) (main_arg2 : FVec F S1024x2464 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x2464 .f32 := Host.absf main_arg2
  let main_cst_0 : FVec F S_ .f32 := constant S_ .f32 0x7F800000#32
  let main_v5 : FVec F S1024x2464 .f32 := broadcastInDim S1024x2464 ![] bcast_S_S1024x2464 main_cst_0
  let main_v6 : IVec S1024x2464 1 := cmpf .olt main_v4 main_v5
  let main_c_1 : IVec S_ 1 := constantI S_ 1 1#1
  let main_v7 : IVec S_ 1 := (fun x v => Host.reduce IntOp.andi x v reducesTo_S1024x2464_S_d0_1 h_S_) main_v6 main_c_1
  let main_v8 : IVec S_ 1 := andi main_v3 main_v7
  main_v8
-- ==== Kernel.lean ====
abbrev S32x2048x2048 : Shape := ⟨3, ![32, 2048, 2048]⟩
abbrev S32x2048x256 : Shape := ⟨3, ![32, 2048, 256]⟩
abbrev S32x2048x128 : Shape := ⟨3, ![32, 2048, 128]⟩
abbrev S64 : Shape := ⟨1, ![64]⟩
abbrev S128 : Shape := ⟨1, ![128]⟩
abbrev S32x2048x1536 : Shape := ⟨3, ![32, 2048, 1536]⟩
abbrev S32x2048x2560 : Shape := ⟨3, ![32, 2048, 2560]⟩
abbrev S2048 : Shape := ⟨1, ![2048]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x64 : Shape := ⟨2, ![2048, 64]⟩
abbrev S2048x128 : Shape := ⟨2, ![2048, 128]⟩
abbrev S1x2048x1x64 : Shape := ⟨4, ![1, 2048, 1, 64]⟩
abbrev S1x2048x2x64 : Shape := ⟨4, ![1, 2048, 2, 64]⟩
abbrev S1x64 : Shape := ⟨2, ![1, 64]⟩
abbrev S2x64 : Shape := ⟨2, ![2, 64]⟩
abbrev S1x128 : Shape := ⟨2, ![1, 128]⟩
abbrev S64x1 : Shape := ⟨2, ![64, 1]⟩
abbrev S128x2048 : Shape := ⟨2, ![128, 2048]⟩
abbrev S128x8x256 : Shape := ⟨3, ![128, 8, 256]⟩
abbrev S8x128x256 : Shape := ⟨3, ![8, 128, 256]⟩
abbrev S1x2048x256 : Shape := ⟨3, ![1, 2048, 256]⟩
abbrev S1x2048x128 : Shape := ⟨3, ![1, 2048, 128]⟩
abbrev S8x512x256 : Shape := ⟨3, ![8, 512, 256]⟩
abbrev S2x8x80x256 : Shape := ⟨4, ![2, 8, 80, 256]⟩
abbrev S2x2048x256 : Shape := ⟨3, ![2, 2048, 256]⟩
abbrev S4x80x256 : Shape := ⟨3, ![4, 80, 256]⟩
abbrev S64x256 : Shape := ⟨2, ![64, 256]⟩
abbrev S1x256x128 : Shape := ⟨3, ![1, 256, 128]⟩
abbrev S256x128 : Shape := ⟨2, ![256, 128]⟩
abbrev S128x256 : Shape := ⟨2, ![128, 256]⟩
abbrev S1x64x256 : Shape := ⟨3, ![1, 64, 256]⟩
abbrev S16x256 : Shape := ⟨2, ![16, 256]⟩
abbrev S256 : Shape := ⟨1, ![256]⟩
abbrev S1x256 : Shape := ⟨2, ![1, 256]⟩
abbrev S128x128 : Shape := ⟨2, ![128, 128]⟩
abbrev S1x1x64x256 : Shape := ⟨4, ![1, 1, 64, 256]⟩
abbrev S1x1x16x256 : Shape := ⟨4, ![1, 1, 16, 256]⟩
abbrev S1x128x256 : Shape := ⟨3, ![1, 128, 256]⟩
abbrev S256x256 : Shape := ⟨2, ![256, 256]⟩
abbrev S1x256x256 : Shape := ⟨3, ![1, 256, 256]⟩
abbrev S32x8x256 : Shape := ⟨3, ![32, 8, 256]⟩
abbrev S8x256 : Shape := ⟨2, ![8, 256]⟩
abbrev S1x80x256 : Shape := ⟨3, ![1, 80, 256]⟩
abbrev S80x256 : Shape := ⟨2, ![80, 256]⟩
abbrev S1x1x80x256 : Shape := ⟨4, ![1, 1, 80, 256]⟩

abbrev nBuf : Space → Nat
  | .hbm => 156
  | .vmem => 17
  | .smem => 0
  | _ => 0

abbrev hbmTy0_0 (i : Nat) : BufTy := match i % 128 with
  | 0 => ⟨S32x2048x2048, .f32⟩
  | 1 => ⟨S32x2048x256, .f32⟩
  | 2 => ⟨S32x2048x128, .f32⟩
  | 3 => ⟨S32x2048x128, .f32⟩
  | 4 => ⟨S64, .f32⟩
  | 5 => ⟨S64, .f32⟩
  | 6 => ⟨S64, .i32⟩
  | 7 => ⟨S64, .i1⟩
  | 8 => ⟨S64, .i1⟩
  | 9 => ⟨S128, .f32⟩
  | 10 => ⟨S32x2048x1536, .f32⟩
  | 11 => ⟨S32x2048x256, .f32⟩
  | 12 => ⟨S32x2048x256, .f32⟩
  | 13 => ⟨S32x2048x2560, .f32⟩
  | 14 => ⟨S2048, .i32⟩
  | 15 => ⟨S16, .f32⟩
  | 16 => ⟨S_, .f32⟩
  | 17 => ⟨S16, .f32⟩
  | 18 => ⟨S16, .f32⟩
  | 19 => ⟨S_, .f32⟩
  | 20 => ⟨S16, .f32⟩
  | 21 => ⟨S16, .f32⟩
  | 22 => ⟨S16, .f32⟩
  | 23 => ⟨S_, .f32⟩
  | 24 => ⟨S16, .f32⟩
  | 25 => ⟨S16, .f32⟩
  | 26 => ⟨S_, .f32⟩
  | 27 => ⟨S16, .f32⟩
  | 28 => ⟨S16, .f32⟩
  | 29 => ⟨S_, .i32⟩
  | 30 => ⟨S_, .i32⟩
  | 31 => ⟨S2048, .i32⟩
  | 32 => ⟨S2048, .i32⟩
  | 33 => ⟨S2048, .i32⟩
  | 34 => ⟨S_, .i32⟩
  | 35 => ⟨S2048, .i32⟩
  | 36 => ⟨S2048, .i1⟩
  | 37 => ⟨S2048, .i32⟩
  | 38 => ⟨S2048, .i32⟩
  | 39 => ⟨S_, .i32⟩
  | 40 => ⟨S2048, .i32⟩
  | 41 => ⟨S2048, .i1⟩
  | 42 => ⟨S2048, .i1⟩
  | 43 => ⟨S_, .i32⟩
  | 44 => ⟨S2048, .i32⟩
  | 45 => ⟨S2048, .i32⟩
  | 46 => ⟨S2048, .i32⟩
  | 47 => ⟨S2048, .f32⟩
  | 48 => ⟨S2048x1, .f32⟩
  | 49 => ⟨S1x16, .f32⟩
  | 50 => ⟨S2048x16, .f32⟩
  | 51 => ⟨S2048x16, .f32⟩
  | 52 => ⟨S2048x16, .f32⟩
  | 53 => ⟨S2048x32, .f32⟩
  | 54 => ⟨S_, .i32⟩
  | 55 => ⟨S_, .i32⟩
  | 56 => ⟨S_, .i32⟩
  | 57 => ⟨S_, .i1⟩
  | 58 => ⟨S_, .i32⟩
  | 59 => ⟨S_, .i32⟩
  | 60 => ⟨S2048, .i32⟩
  | 61 => ⟨S2048, .i32⟩
  | 62 => ⟨S_, .i32⟩
  | 63 => ⟨S2048, .i32⟩
  | 64 => ⟨S2048, .i1⟩
  | 65 => ⟨S_, .i32⟩
  | 66 => ⟨S2048, .i32⟩
  | 67 => ⟨S2048, .i1⟩
  | 68 => ⟨S_, .i32⟩
  | 69 => ⟨S_, .i1⟩
  | 70 => ⟨S2048, .i1⟩
  | 71 => ⟨S2048, .i1⟩
  | 72 => ⟨S2048, .i1⟩
  | 73 => ⟨S2048, .i32⟩
  | 74 => ⟨S2048, .i32⟩
  | 75 => ⟨S2048, .i32⟩
  | 76 => ⟨S2048, .f32⟩
  | 77 => ⟨S2048x1, .f32⟩
  | 78 => ⟨S1x16, .f32⟩
  | 79 => ⟨S2048x16, .f32⟩
  | 80 => ⟨S2048x16, .f32⟩
  | 81 => ⟨S2048x16, .f32⟩
  | 82 => ⟨S2048x32, .f32⟩
  | 83 => ⟨S2048x64, .f32⟩
  | 84 => ⟨S2048, .f32⟩
  | 85 => ⟨S2048x1, .f32⟩
  | 86 => ⟨S1x16, .f32⟩
  | 87 => ⟨S2048x16, .f32⟩
  | 88 => ⟨S2048x16, .f32⟩
  | 89 => ⟨S2048x16, .f32⟩
  | 90 => ⟨S2048x32, .f32⟩
  | 91 => ⟨S_, .f32⟩
  | 92 => ⟨S2048x64, .f32⟩
  | 93 => ⟨S2048x32, .f32⟩
  | 94 => ⟨S_, .f32⟩
  | 95 => ⟨S2048x32, .f32⟩
  | 96 => ⟨S2048x128, .f32⟩
  | 97 => ⟨S2048x32, .f32⟩
  | 98 => ⟨S_, .i32⟩
  | 99 => ⟨S_, .f32⟩
  | 100 => ⟨S2048x128, .f32⟩
  | 101 => ⟨S2048x64, .f32⟩
  | 102 => ⟨S1x2048x1x64, .f32⟩
  | 103 => ⟨S1x2048x2x64, .f32⟩
  | 104 => ⟨S2048x128, .f32⟩
  | 105 => ⟨S2048x64, .f32⟩
  | 106 => ⟨S1x2048x1x64, .f32⟩
  | 107 => ⟨S1x2048x2x64, .f32⟩
  | 108 => ⟨S2048x128, .f32⟩
  | 109 => ⟨S1x64, .f32⟩
  | 110 => ⟨S2x64, .f32⟩
  | 111 => ⟨S128, .f32⟩
  | 112 => ⟨S1x128, .f32⟩
  | 113 => ⟨S_, .i32⟩
  | 114 => ⟨S64, .i32⟩
  | 115 => ⟨S64, .i32⟩
  | 116 => ⟨S64, .i32⟩
  | 117 => ⟨S64x1, .i32⟩
  | 118 => ⟨S64, .f32⟩
  | 119 => ⟨S1x64, .f32⟩
  | 120 => ⟨S2x64, .f32⟩
  | 121 => ⟨S128, .f32⟩
  | 122 => ⟨S1x128, .f32⟩
  | 123 => ⟨S1x64, .f32⟩
  | 124 => ⟨S2x64, .f32⟩
  | 125 => ⟨S128, .f32⟩
  | 126 => ⟨S1x128, .f32⟩
  | 127 => ⟨S_, .i32⟩
  | _ => ⟨S32x2048x2048, .f32⟩

abbrev hbmTy0_1 (i : Nat) : BufTy := match i % 128 with
  | 0 => ⟨S64, .i32⟩
  | 1 => ⟨S64, .i32⟩
  | 2 => ⟨S64, .i32⟩
  | 3 => ⟨S64x1, .i32⟩
  | 4 => ⟨S64, .f32⟩
  | 5 => ⟨S1x64, .f32⟩
  | 6 => ⟨S2x64, .f32⟩
  | 7 => ⟨S128, .f32⟩
  | 8 => ⟨S1x128, .f32⟩
  | 9 => ⟨S2048x128, .f32⟩
  | 10 => ⟨S2048x128, .f32⟩
  | 11 => ⟨S128x2048, .f32⟩
  | 12 => ⟨S128x8x256, .f32⟩
  | 13 => ⟨S8x128x256, .f32⟩
  | 14 => ⟨S1x128, .f32⟩
  | 15 => ⟨S1x128, .f32⟩
  | 16 => ⟨S2048x128, .f32⟩
  | 17 => ⟨S2048x128, .f32⟩
  | 18 => ⟨S128x2048, .f32⟩
  | 19 => ⟨S128x8x256, .f32⟩
  | 20 => ⟨S8x128x256, .f32⟩
  | 21 => ⟨S2048x128, .f32⟩
  | 22 => ⟨S2048x128, .f32⟩
  | 23 => ⟨S1x128, .f32⟩
  | 24 => ⟨S1x128, .f32⟩
  | 25 => ⟨S2048x128, .f32⟩
  | 26 => ⟨S2048x128, .f32⟩
  | 27 => ⟨S32x2048x256, .bf16⟩
  | _ => ⟨S32x2048x2048, .f32⟩

abbrev hbmTy (i : Nat) : BufTy := match i / 128 with
  | 0 => hbmTy0_0 i
  | 1 => hbmTy0_1 i
  | _ => ⟨S32x2048x2048, .f32⟩

abbrev bufTy : (tb : Table) → Fin (tcTables nBuf tb) → BufTy
  | .hbm, ⟨i, _⟩ => hbmTy i
  | .local _ .vmem, ⟨0, _⟩ => ⟨S1x2048x256, .f32⟩
  | .local _ .vmem, ⟨1, _⟩ => ⟨S1x2048x256, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S8x128x256, .f32⟩
  | .local _ .vmem, ⟨7, _⟩ => ⟨S8x128x256, .f32⟩
  | .local _ .vmem, ⟨8, _⟩ => ⟨S2048x128, .f32⟩
  | .local _ .vmem, ⟨9, _⟩ => ⟨S2048x128, .f32⟩
  | .local _ .vmem, ⟨10, _⟩ => ⟨S1x2048x256, .bf16⟩
  | .local _ .vmem, ⟨11, _⟩ => ⟨S1x2048x256, .bf16⟩
  | .local _ .vmem, ⟨12, _⟩ => ⟨S8x512x256, .bf16⟩
  | .local _ .vmem, ⟨13, _⟩ => ⟨S2048x128, .bf16⟩
  | .local _ .vmem, ⟨14, _⟩ => ⟨S2x8x80x256, .bf16⟩
  | .local _ .vmem, ⟨15, _⟩ => ⟨S2x2048x256, .f32⟩
  | .local _ .vmem, ⟨16, _⟩ => ⟨S4x80x256, .f32⟩
  | _, _ => ⟨S32x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_cst_3 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_4 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_v13 : Ref sig .tc := ⟨.hbm, 27, rfl⟩
abbrev main_v14 : Ref sig .tc := ⟨.hbm, 28, rfl⟩
abbrev main_c_6 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_v8 : Ref sig .tc := ⟨.hbm, 38, rfl⟩
abbrev main_call0_c : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_c_0 : Ref sig .tc := ⟨.hbm, 43, rfl⟩
abbrev main_call0_v12 : Ref sig .tc := ⟨.hbm, 44, rfl⟩
abbrev main_call0_v13 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_7 : Ref sig .tc := ⟨.hbm, 54, rfl⟩
abbrev main_call1_v0 : Ref sig .tc := ⟨.hbm, 55, rfl⟩
abbrev main_call1_c : Ref sig .tc := ⟨.hbm, 56, rfl⟩
abbrev main_call1_v1 : Ref sig .tc := ⟨.hbm, 57, rfl⟩
abbrev main_call1_c_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_c_1 : Ref sig .tc := ⟨.hbm, 62, rfl⟩
abbrev main_call1_v5 : Ref sig .tc := ⟨.hbm, 63, rfl⟩
abbrev main_call1_v6 : Ref sig .tc := ⟨.hbm, 64, rfl⟩
abbrev main_call1_c_2 : Ref sig .tc := ⟨.hbm, 65, rfl⟩
abbrev main_call1_v7 : Ref sig .tc := ⟨.hbm, 66, rfl⟩
abbrev main_call1_v8 : Ref sig .tc := ⟨.hbm, 67, rfl⟩
abbrev main_call1_c_3 : Ref sig .tc := ⟨.hbm, 68, rfl⟩
abbrev main_call1_v9 : Ref sig .tc := ⟨.hbm, 69, rfl⟩
abbrev main_call1_v10 : Ref sig .tc := ⟨.hbm, 70, rfl⟩
abbrev main_call1_v11 : Ref sig .tc := ⟨.hbm, 71, rfl⟩
abbrev main_call1_v12 : Ref sig .tc := ⟨.hbm, 72, rfl⟩
abbrev main_call1_v13 : Ref sig .tc := ⟨.hbm, 73, rfl⟩
abbrev main_call1_v14 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_cst_8 : Ref sig .tc := ⟨.hbm, 91, rfl⟩
abbrev main_v39 : Ref sig .tc := ⟨.hbm, 92, rfl⟩
abbrev main_v40 : Ref sig .tc := ⟨.hbm, 93, rfl⟩
abbrev main_cst_9 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_c_10 : Ref sig .tc := ⟨.hbm, 98, rfl⟩
abbrev main_call2_v0 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_v47 : Ref sig .tc := ⟨.hbm, 103, rfl⟩
abbrev main_v48 : Ref sig .tc := ⟨.hbm, 104, rfl⟩
abbrev main_v49 : Ref sig .tc := ⟨.hbm, 105, rfl⟩
abbrev main_v50 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_v55 : Ref sig .tc := ⟨.hbm, 111, rfl⟩
abbrev main_v56 : Ref sig .tc := ⟨.hbm, 112, rfl⟩
abbrev main_c_11 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_c_12 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_v80 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def k0_mult1 : BitVec 32 :=
  let c0_i32 : BitVec 32 := 0#32
  let c256_i32 : BitVec 32 := 256#32
  let v0 : BitVec 32 := Scalar.muli c0_i32 c256_i32
  v0
def k0_off1 (c0_i32 : BitVec 32) : Fin 3 → Nat :=
  let c0 : Index := 0#32
  let c256_i32 : BitVec 32 := 256#32
  let v0 : BitVec 32 := Scalar.muli c0_i32 c256_i32
  let v1 : BitVec 32 := v0
  let v3 : Index := Scalar.indexCast v1
  let c0_0 : Index := 0#32
  ![0, v3.toNat, 0]
def k0_off2 (c0_i32 : BitVec 32) : Fin 3 → Nat :=
  let c0_22 : Index := 0#32
  let c256_i32 : BitVec 32 := 256#32
  let v0 : BitVec 32 := Scalar.muli c0_i32 c256_i32
  let v1 : BitVec 32 := v0
  let v79 : Index := Scalar.indexCast v1
  let c128_23 : Index := 128#32
  ![0, v79.toNat, 128]
def k0_off3 (c0_i32 : BitVec 32) : Fin 3 → Nat :=
  let c0_44 : Index := 0#32
  let c256_i32 : BitVec 32 := 256#32
  let v0 : BitVec 32 := Scalar.muli c0_i32 c256_i32
  let v1 : BitVec 32 := v0
  let v155 : Index := Scalar.indexCast v1
  let c0_45 : Index := 0#32
  ![0, v155.toNat, 0]
def k0_off4 (c0_i32 : BitVec 32) : Fin 2 → Nat :=
  let c256_i32 : BitVec 32 := 256#32
  let v0 : BitVec 32 := Scalar.muli c0_i32 c256_i32
  let v1 : BitVec 32 := v0
  let v158 : Index := Scalar.indexCast v1
  let c0_46 : Index := 0#32
  ![v158.toNat, 0]
def k0_mult2 : BitVec 32 :=
  let c1_i32_92 : BitVec 32 := 1#32
  let c256_i32_93 : BitVec 32 := 256#32
  let v300 : BitVec 32 := Scalar.muli c1_i32_92 c256_i32_93
  v300
def k0_mult3 : BitVec 32 :=
  let c2_i32 : BitVec 32 := 2#32
  let c256_i32_201 : BitVec 32 := 256#32
  let v600 : BitVec 32 := Scalar.muli c2_i32 c256_i32_201
  v600
def k0_mult4 : BitVec 32 :=
  let c3_i32 : BitVec 32 := 3#32
  let c256_i32_309 : BitVec 32 := 256#32
  let v900 : BitVec 32 := Scalar.muli c3_i32 c256_i32_309
  v900
def k0_mult5 : BitVec 32 :=
  let c4_i32 : BitVec 32 := 4#32
  let c256_i32_417 : BitVec 32 := 256#32
  let v1200 : BitVec 32 := Scalar.muli c4_i32 c256_i32_417
  v1200
def k0_mult6 : BitVec 32 :=
  let c5_i32 : BitVec 32 := 5#32
  let c256_i32_525 : BitVec 32 := 256#32
  let v1500 : BitVec 32 := Scalar.muli c5_i32 c256_i32_525
  v1500
def k0_mult7 : BitVec 32 :=
  let c6_i32 : BitVec 32 := 6#32
  let c256_i32_633 : BitVec 32 := 256#32
  let v1800 : BitVec 32 := Scalar.muli c6_i32 c256_i32_633
  v1800
def k0_mult8 : BitVec 32 :=
  let c7_i32 : BitVec 32 := 7#32
  let c256_i32_741 : BitVec 32 := 256#32
  let v2100 : BitVec 32 := Scalar.muli c7_i32 c256_i32_741
  v2100
@[reducible] def k0_t1_loop : Scf.Loop 32 :=
  let c0_i32_907 : BitVec 32 := 0#32
  let c8_i32_908 : BitVec 32 := 8#32
  let v2471 : BitVec 32 := Scalar.addi c0_i32_907 c8_i32_908
  let c1_i32_909 : BitVec 32 := 1#32
  ⟨c0_i32_907, v2471, c1_i32_909⟩
def k0_off5 (k0_t1 : Fin k0_t1_loop.trips) : Fin 3 → Nat :=
  let c0_i32_907 : BitVec 32 := 0#32
  let c1_i32_909 : BitVec 32 := 1#32
  let arg14 : BitVec 32 := Scf.iv c0_i32_907 c1_i32_909 k0_t1
  let v2505 : Index := Scalar.indexCast arg14
  let c128_926 : Index := 128#32
  let c0_927 : Index := 0#32
  ![v2505.toNat, 128, 0]
def k0_mult9 (k0_t1 : Fin k0_t1_loop.trips) : BitVec 32 :=
  let c0_i32_907 : BitVec 32 := 0#32
  let c1_i32_909 : BitVec 32 := 1#32
  let arg14 : BitVec 32 := Scf.iv c0_i32_907 c1_i32_909 k0_t1
  let c1_i32_985 : BitVec 32 := 1#32
  let v2573 : BitVec 32 := Scalar.subi arg14 c1_i32_985
  let c0_i32_986 : BitVec 32 := 0#32
  let v2574 : BitVec 32 := Scalar.maxsi v2573 c0_i32_986
  let c256_i32_987 : BitVec 32 := 256#32
  let v2575 : BitVec 32 := Scalar.muli v2574 c256_i32_987
  v2575
def k0_off6 (k0_t1 : Fin k0_t1_loop.trips) : Fin 3 → Nat :=
  let c0_1000 : Index := 0#32
  let c0_i32_907 : BitVec 32 := 0#32
  let c1_i32_909 : BitVec 32 := 1#32
  let arg14 : BitVec 32 := Scf.iv c0_i32_907 c1_i32_909 k0_t1
  let c1_i32_985 : BitVec 32 := 1#32
  let v2573 : BitVec 32 := Scalar.subi arg14 c1_i32_985
  let c0_i32_986 : BitVec 32 := 0#32
  let v2574 : BitVec 32 := Scalar.maxsi v2573 c0_i32_986
  let c256_i32_987 : BitVec 32 := 256#32
  let v2575 : BitVec 32 := Scalar.muli v2574 c256_i32_987
  let v2576 : BitVec 32 := v2575
  let v2604 : Index := Scalar.indexCast v2576
  let c0_1001 : Index := 0#32
  ![0, v2604.toNat, 0]
def k0_off7 (k0_t1 : Fin k0_t1_loop.trips) : Fin 3 → Nat :=
  let c0_i32_907 : BitVec 32 := 0#32
  let c1_i32_909 : BitVec 32 := 1#32
  let arg14 : BitVec 32 := Scf.iv c0_i32_907 c1_i32_909 k0_t1
  let v2690 : Index := Scalar.indexCast arg14
  let c256_1065 : Index := 256#32
  let c0_1066 : Index := 0#32
  ![v2690.toNat, 256, 0]
def k0_off8 (k0_t1 : Fin k0_t1_loop.trips) : Fin 3 → Nat :=
  let c0_i32_907 : BitVec 32 := 0#32
  let c1_i32_909 : BitVec 32 := 1#32
  let arg14 : BitVec 32 := Scf.iv c0_i32_907 c1_i32_909 k0_t1
  let v2840 : Index := Scalar.indexCast arg14
  let c384_1191 : Index := 384#32
  let c0_1192 : Index := 0#32
  ![v2840.toNat, 384, 0]
def k0_off9 (k0_t1 : Fin k0_t1_loop.trips) : Fin 3 → Nat :=
  let c0_i32_907 : BitVec 32 := 0#32
  let c1_i32_909 : BitVec 32 := 1#32
  let arg14 : BitVec 32 := Scf.iv c0_i32_907 c1_i32_909 k0_t1
  let c1_i32_924 : BitVec 32 := 1#32
  let v2503 : BitVec 32 := Scalar.addi arg14 c1_i32_924
  let c7_i32_925 : BitVec 32 := 7#32
  let v2504 : BitVec 32 := Scalar.minsi v2503 c7_i32_925
  let v2990 : Index := Scalar.indexCast v2504
  let c0_1317 : Index := 0#32
  let c0_1318 : Index := 0#32
  ![v2990.toNat, 0, 0]
def cc0_transform_0 (i : grid0.Coords) : Fin 3 → Nat :=
  let arg0 : BitVec 32 := BitVec.ofNat 32 (i 0).val
  let c0_i32 : BitVec 32 := 0#32
  let c6_i32 : BitVec 32 := 6#32
  let c0_i32_0 : BitVec 32 := 0#32
  ![arg0.toNat, c0_i32.toNat, c6_i32.toNat]

def cc0_transform_1 (i : grid0.Coords) : Fin 3 → Nat :=
  let arg0 : BitVec 32 := BitVec.ofNat 32 (i 0).val
  let c0_i32 : BitVec 32 := 0#32
  let c16_i32 : BitVec 32 := 16#32
  let c0_i32_0 : BitVec 32 := 0#32
  ![arg0.toNat, c0_i32.toNat, c16_i32.toNat]

def cc0_transform_2 (i : grid0.Coords) : Fin 3 → Nat :=
  let arg0 : BitVec 32 := BitVec.ofNat 32 (i 0).val
  let c0_i32 : BitVec 32 := 0#32
  let c17_i32 : BitVec 32 := 17#32
  let c0_i32_0 : BitVec 32 := 0#32
  ![arg0.toNat, c0_i32.toNat, c17_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "q_scale" => some (((1 / 8) * (Real.log 2)⁻¹ : ℝ) : EReal)
  | _ => none
-- ==== ReferenceIdeal.lean ====
abbrev S32x2048x2048 : Shape := ⟨3, ![32, 2048, 2048]⟩
abbrev S32x2048x256 : Shape := ⟨3, ![32, 2048, 256]⟩
abbrev S32x2048x128 : Shape := ⟨3, ![32, 2048, 128]⟩
abbrev S64 : Shape := ⟨1, ![64]⟩
abbrev S2048 : Shape := ⟨1, ![2048]⟩
abbrev S_ : Shape := ⟨0, ![]⟩
abbrev S32x2048x4x64 : Shape := ⟨4, ![32, 2048, 4, 64]⟩
abbrev S32x4x2048x64 : Shape := ⟨4, ![32, 4, 2048, 64]⟩
abbrev S32x4x2048 : Shape := ⟨3, ![32, 4, 2048]⟩
abbrev S32x4x2048x1 : Shape := ⟨4, ![32, 4, 2048, 1]⟩
abbrev S1x1x1x64 : Shape := ⟨4, ![1, 1, 1, 64]⟩
abbrev S32x4x2048x32 : Shape := ⟨4, ![32, 4, 2048, 32]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S32x4x2048x16 : Shape := ⟨4, ![32, 4, 2048, 16]⟩
abbrev S1x1x2048x32 : Shape := ⟨4, ![1, 1, 2048, 32]⟩
abbrev S32x2048x2x64 : Shape := ⟨4, ![32, 2048, 2, 64]⟩
abbrev S32x2x2048x64 : Shape := ⟨4, ![32, 2, 2048, 64]⟩
abbrev S32x2x2048 : Shape := ⟨3, ![32, 2, 2048]⟩
abbrev S32x2x2048x1 : Shape := ⟨4, ![32, 2, 2048, 1]⟩
abbrev S32x2x2048x32 : Shape := ⟨4, ![32, 2, 2048, 32]⟩
abbrev S32x2x2048x16 : Shape := ⟨4, ![32, 2, 2048, 16]⟩
abbrev S32x2x2x2048x64 : Shape := ⟨5, ![32, 2, 2, 2048, 64]⟩
abbrev S32x2x2x2048x2048 : Shape := ⟨5, ![32, 2, 2, 2048, 2048]⟩
abbrev S32x2x2x2048 : Shape := ⟨4, ![32, 2, 2, 2048]⟩
abbrev S32x2x2x2048x1 : Shape := ⟨5, ![32, 2, 2, 2048, 1]⟩

abbrev nBuf : Space → Nat
  | .hbm => 251
  | .vmem => 0
  | .smem => 0
  | _ => 0

abbrev hbmTy0_0 (i : Nat) : BufTy := match i % 128 with
  | 0 => ⟨S32x2048x2048, .f32⟩
  | 1 => ⟨S32x2048x256, .f32⟩
  | 2 => ⟨S32x2048x128, .f32⟩
  | 3 => ⟨S32x2048x128, .f32⟩
  | 4 => ⟨S64, .f32⟩
  | 5 => ⟨S64, .f32⟩
  | 6 => ⟨S2048, .i32⟩
  | 7 => ⟨S_, .i32⟩
  | 8 => ⟨S_, .i32⟩
  | 9 => ⟨S2048, .i32⟩
  | 10 => ⟨S2048, .i32⟩
  | 11 => ⟨S2048, .i32⟩
  | 12 => ⟨S_, .i32⟩
  | 13 => ⟨S2048, .i32⟩
  | 14 => ⟨S2048, .i1⟩
  | 15 => ⟨S2048, .i32⟩
  | 16 => ⟨S2048, .i32⟩
  | 17 => ⟨S_, .i32⟩
  | 18 => ⟨S2048, .i32⟩
  | 19 => ⟨S2048, .i1⟩
  | 20 => ⟨S2048, .i1⟩
  | 21 => ⟨S_, .i32⟩
  | 22 => ⟨S2048, .i32⟩
  | 23 => ⟨S2048, .i32⟩
  | 24 => ⟨S2048, .i32⟩
  | 25 => ⟨S_, .i32⟩
  | 26 => ⟨S_, .i32⟩
  | 27 => ⟨S_, .i32⟩
  | 28 => ⟨S_, .i1⟩
  | 29 => ⟨S_, .i32⟩
  | 30 => ⟨S_, .i32⟩
  | 31 => ⟨S2048, .i32⟩
  | 32 => ⟨S2048, .i32⟩
  | 33 => ⟨S_, .i32⟩
  | 34 => ⟨S2048, .i32⟩
  | 35 => ⟨S2048, .i1⟩
  | 36 => ⟨S_, .i32⟩
  | 37 => ⟨S2048, .i32⟩
  | 38 => ⟨S2048, .i1⟩
  | 39 => ⟨S_, .i32⟩
  | 40 => ⟨S_, .i1⟩
  | 41 => ⟨S2048, .i1⟩
  | 42 => ⟨S2048, .i1⟩
  | 43 => ⟨S2048, .i1⟩
  | 44 => ⟨S2048, .i32⟩
  | 45 => ⟨S2048, .i32⟩
  | 46 => ⟨S2048, .i32⟩
  | 47 => ⟨S32x2048x4x64, .f32⟩
  | 48 => ⟨S32x4x2048x64, .f32⟩
  | 49 => ⟨S32x4x2048x64, .f32⟩
  | 50 => ⟨S_, .f32⟩
  | 51 => ⟨S32x4x2048, .f32⟩
  | 52 => ⟨S32x4x2048x1, .f32⟩
  | 53 => ⟨S_, .f32⟩
  | 54 => ⟨S32x4x2048x1, .f32⟩
  | 55 => ⟨S32x4x2048x1, .f32⟩
  | 56 => ⟨S_, .f32⟩
  | 57 => ⟨S32x4x2048x1, .f32⟩
  | 58 => ⟨S32x4x2048x1, .f32⟩
  | 59 => ⟨S32x4x2048x1, .f32⟩
  | 60 => ⟨S32x4x2048x64, .f32⟩
  | 61 => ⟨S32x4x2048x64, .f32⟩
  | 62 => ⟨S1x1x1x64, .f32⟩
  | 63 => ⟨S32x4x2048x64, .f32⟩
  | 64 => ⟨S32x4x2048x64, .f32⟩
  | 65 => ⟨S32x4x2048x32, .f32⟩
  | 66 => ⟨S16, .f32⟩
  | 67 => ⟨S_, .f32⟩
  | 68 => ⟨S16, .f32⟩
  | 69 => ⟨S16, .f32⟩
  | 70 => ⟨S_, .f32⟩
  | 71 => ⟨S16, .f32⟩
  | 72 => ⟨S16, .f32⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S16, .f32⟩
  | 80 => ⟨S2048, .f32⟩
  | 81 => ⟨S2048x1, .f32⟩
  | 82 => ⟨S1x16, .f32⟩
  | 83 => ⟨S2048x16, .f32⟩
  | 84 => ⟨S2048x16, .f32⟩
  | 85 => ⟨S2048x16, .f32⟩
  | 86 => ⟨S2048x32, .f32⟩
  | 87 => ⟨S32x4x2048x16, .f32⟩
  | 88 => ⟨S32x4x2048x16, .f32⟩
  | 89 => ⟨S32x4x2048x16, .f32⟩
  | 90 => ⟨S32x4x2048x32, .f32⟩
  | 91 => ⟨S2048x32, .f32⟩
  | 92 => ⟨S1x1x2048x32, .f32⟩
  | 93 => ⟨S32x4x2048x32, .f32⟩
  | 94 => ⟨S32x4x2048x32, .f32⟩
  | 95 => ⟨S2048x32, .f32⟩
  | 96 => ⟨S1x1x2048x32, .f32⟩
  | 97 => ⟨S32x4x2048x32, .f32⟩
  | 98 => ⟨S32x4x2048x32, .f32⟩
  | 99 => ⟨S32x4x2048x32, .f32⟩
  | 100 => ⟨S32x4x2048x32, .f32⟩
  | 101 => ⟨S16, .f32⟩
  | 102 => ⟨S_, .f32⟩
  | 103 => ⟨S16, .f32⟩
  | 104 => ⟨S16, .f32⟩
  | 105 => ⟨S_, .f32⟩
  | 106 => ⟨S16, .f32⟩
  | 107 => ⟨S16, .f32⟩
  | 108 => ⟨S16, .f32⟩
  | 109 => ⟨S_, .f32⟩
  | 110 => ⟨S16, .f32⟩
  | 111 => ⟨S16, .f32⟩
  | 112 => ⟨S_, .f32⟩
  | 113 => ⟨S16, .f32⟩
  | 114 => ⟨S16, .f32⟩
  | 115 => ⟨S2048, .f32⟩
  | 116 => ⟨S2048x1, .f32⟩
  | 117 => ⟨S1x16, .f32⟩
  | 118 => ⟨S2048x16, .f32⟩
  | 119 => ⟨S2048x16, .f32⟩
  | 120 => ⟨S2048x16, .f32⟩
  | 121 => ⟨S2048x32, .f32⟩
  | 122 => ⟨S32x4x2048x16, .f32⟩
  | 123 => ⟨S32x4x2048x16, .f32⟩
  | 124 => ⟨S32x4x2048x16, .f32⟩
  | 125 => ⟨S32x4x2048x32, .f32⟩
  | 126 => ⟨S2048x32, .f32⟩
  | 127 => ⟨S1x1x2048x32, .f32⟩
  | _ => ⟨S32x2048x2048, .f32⟩

abbrev hbmTy0_1 (i : Nat) : BufTy := match i % 128 with
  | 0 => ⟨S32x4x2048x32, .f32⟩
  | 1 => ⟨S32x4x2048x32, .f32⟩
  | 2 => ⟨S2048x32, .f32⟩
  | 3 => ⟨S1x1x2048x32, .f32⟩
  | 4 => ⟨S32x4x2048x32, .f32⟩
  | 5 => ⟨S32x4x2048x32, .f32⟩
  | 6 => ⟨S32x4x2048x32, .f32⟩
  | 7 => ⟨S32x4x2048x64, .f32⟩
  | 8 => ⟨S32x2048x2x64, .f32⟩
  | 9 => ⟨S32x2x2048x64, .f32⟩
  | 10 => ⟨S32x2x2048x64, .f32⟩
  | 11 => ⟨S_, .f32⟩
  | 12 => ⟨S32x2x2048, .f32⟩
  | 13 => ⟨S32x2x2048x1, .f32⟩
  | 14 => ⟨S_, .f32⟩
  | 15 => ⟨S32x2x2048x1, .f32⟩
  | 16 => ⟨S32x2x2048x1, .f32⟩
  | 17 => ⟨S_, .f32⟩
  | 18 => ⟨S32x2x2048x1, .f32⟩
  | 19 => ⟨S32x2x2048x1, .f32⟩
  | 20 => ⟨S32x2x2048x1, .f32⟩
  | 21 => ⟨S32x2x2048x64, .f32⟩
  | 22 => ⟨S32x2x2048x64, .f32⟩
  | 23 => ⟨S1x1x1x64, .f32⟩
  | 24 => ⟨S32x2x2048x64, .f32⟩
  | 25 => ⟨S32x2x2048x64, .f32⟩
  | 26 => ⟨S32x2x2048x32, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S2048, .f32⟩
  | 42 => ⟨S2048x1, .f32⟩
  | 43 => ⟨S1x16, .f32⟩
  | 44 => ⟨S2048x16, .f32⟩
  | 45 => ⟨S2048x16, .f32⟩
  | 46 => ⟨S2048x16, .f32⟩
  | 47 => ⟨S2048x32, .f32⟩
  | 48 => ⟨S32x2x2048x16, .f32⟩
  | 49 => ⟨S32x2x2048x16, .f32⟩
  | 50 => ⟨S32x2x2048x16, .f32⟩
  | 51 => ⟨S32x2x2048x32, .f32⟩
  | 52 => ⟨S2048x32, .f32⟩
  | 53 => ⟨S1x1x2048x32, .f32⟩
  | 54 => ⟨S32x2x2048x32, .f32⟩
  | 55 => ⟨S32x2x2048x32, .f32⟩
  | 56 => ⟨S2048x32, .f32⟩
  | 57 => ⟨S1x1x2048x32, .f32⟩
  | 58 => ⟨S32x2x2048x32, .f32⟩
  | 59 => ⟨S32x2x2048x32, .f32⟩
  | 60 => ⟨S32x2x2048x32, .f32⟩
  | 61 => ⟨S32x2x2048x32, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S16, .f32⟩
  | 70 => ⟨S_, .f32⟩
  | 71 => ⟨S16, .f32⟩
  | 72 => ⟨S16, .f32⟩
  | 73 => ⟨S_, .f32⟩
  | 74 => ⟨S16, .f32⟩
  | 75 => ⟨S16, .f32⟩
  | 76 => ⟨S2048, .f32⟩
  | 77 => ⟨S2048x1, .f32⟩
  | 78 => ⟨S1x16, .f32⟩
  | 79 => ⟨S2048x16, .f32⟩
  | 80 => ⟨S2048x16, .f32⟩
  | 81 => ⟨S2048x16, .f32⟩
  | 82 => ⟨S2048x32, .f32⟩
  | 83 => ⟨S32x2x2048x16, .f32⟩
  | 84 => ⟨S32x2x2048x16, .f32⟩
  | 85 => ⟨S32x2x2048x16, .f32⟩
  | 86 => ⟨S32x2x2048x32, .f32⟩
  | 87 => ⟨S2048x32, .f32⟩
  | 88 => ⟨S1x1x2048x32, .f32⟩
  | 89 => ⟨S32x2x2048x32, .f32⟩
  | 90 => ⟨S32x2x2048x32, .f32⟩
  | 91 => ⟨S2048x32, .f32⟩
  | 92 => ⟨S1x1x2048x32, .f32⟩
  | 93 => ⟨S32x2x2048x32, .f32⟩
  | 94 => ⟨S32x2x2048x32, .f32⟩
  | 95 => ⟨S32x2x2048x32, .f32⟩
  | 96 => ⟨S32x2x2048x64, .f32⟩
  | 97 => ⟨S32x2048x2x64, .f32⟩
  | 98 => ⟨S32x2x2048x64, .f32⟩
  | 99 => ⟨S32x2x2x2048x64, .f32⟩
  | 100 => ⟨S32x2x2x2048x2048, .f32⟩
  | 101 => ⟨S_, .f32⟩
  | 102 => ⟨S32x2x2x2048x2048, .f32⟩
  | 103 => ⟨S32x2x2x2048x2048, .f32⟩
  | 104 => ⟨S_, .f32⟩
  | 105 => ⟨S32x2x2x2048, .f32⟩
  | 106 => ⟨S_, .f32⟩
  | 107 => ⟨S32x2x2x2048, .f32⟩
  | 108 => ⟨S32x2x2x2048, .f32⟩
  | 109 => ⟨S32x2x2x2048x1, .f32⟩
  | 110 => ⟨S32x2x2x2048x2048, .f32⟩
  | 111 => ⟨S32x2x2x2048x2048, .f32⟩
  | 112 => ⟨S32x2x2x2048x2048, .f32⟩
  | 113 => ⟨S_, .f32⟩
  | 114 => ⟨S32x2x2x2048, .f32⟩
  | 115 => ⟨S32x2x2x2048x1, .f32⟩
  | 116 => ⟨S32x2x2x2048x2048, .f32⟩
  | 117 => ⟨S32x2x2x2048x2048, .f32⟩
  | 118 => ⟨S32x2x2x2048x64, .f32⟩
  | 119 => ⟨S32x4x2048x64, .f32⟩
  | 120 => ⟨S32x2048x4x64, .f32⟩
  | 121 => ⟨S32x2048x256, .f32⟩
  | 122 => ⟨S32x2048x256, .bf16⟩
  | _ => ⟨S32x2048x2048, .f32⟩

abbrev hbmTy (i : Nat) : BufTy := match i / 128 with
  | 0 => hbmTy0_0 i
  | 1 => hbmTy0_1 i
  | _ => ⟨S32x2048x2048, .f32⟩

abbrev bufTy : (tb : Table) → Fin (tcTables nBuf tb) → BufTy
  | .hbm, ⟨i, _⟩ => hbmTy i
  | _, _ => ⟨S32x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_c : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_0 : Ref sig .tc := ⟨.hbm, 21, rfl⟩
abbrev main_call0_v12 : Ref sig .tc := ⟨.hbm, 22, rfl⟩
abbrev main_call0_v13 : Ref sig .tc := ⟨.hbm, 23, rfl⟩
abbrev main_v1 : Ref sig .tc := ⟨.hbm, 24, rfl⟩
abbrev main_c_0 : Ref sig .tc := ⟨.hbm, 25, rfl⟩
abbrev main_call1_v0 : Ref sig .tc := ⟨.hbm, 26, rfl⟩
abbrev main_call1_c : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_c_1 : Ref sig .tc := ⟨.hbm, 33, rfl⟩
abbrev main_call1_v5 : Ref sig .tc := ⟨.hbm, 34, rfl⟩
abbrev main_call1_v6 : Ref sig .tc := ⟨.hbm, 35, rfl⟩
abbrev main_call1_c_2 : Ref sig .tc := ⟨.hbm, 36, rfl⟩
abbrev main_call1_v7 : Ref sig .tc := ⟨.hbm, 37, rfl⟩
abbrev main_call1_v8 : Ref sig .tc := ⟨.hbm, 38, rfl⟩
abbrev main_call1_c_3 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_cst : Ref sig .tc := ⟨.hbm, 50, rfl⟩
abbrev main_v6 : Ref sig .tc := ⟨.hbm, 51, rfl⟩
abbrev main_v7 : Ref sig .tc := ⟨.hbm, 52, rfl⟩
abbrev main_cst_1 : Ref sig .tc := ⟨.hbm, 53, rfl⟩
abbrev main_v8 : Ref sig .tc := ⟨.hbm, 54, rfl⟩
abbrev main_v9 : Ref sig .tc := ⟨.hbm, 55, rfl⟩
abbrev main_cst_2 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_cst_3 : Ref sig .tc := ⟨.hbm, 67, rfl⟩
abbrev main_v20 : Ref sig .tc := ⟨.hbm, 68, rfl⟩
abbrev main_v21 : Ref sig .tc := ⟨.hbm, 69, rfl⟩
abbrev main_cst_4 : Ref sig .tc := ⟨.hbm, 70, rfl⟩
abbrev main_v22 : Ref sig .tc := ⟨.hbm, 71, rfl⟩
abbrev main_v23 : Ref sig .tc := ⟨.hbm, 72, rfl⟩
abbrev main_v24 : Ref sig .tc := ⟨.hbm, 73, rfl⟩
abbrev main_cst_5 : Ref sig .tc := ⟨.hbm, 74, rfl⟩
abbrev main_v25 : Ref sig .tc := ⟨.hbm, 75, rfl⟩
abbrev main_v26 : Ref sig .tc := ⟨.hbm, 76, rfl⟩
abbrev main_cst_6 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_cst_7 : Ref sig .tc := ⟨.hbm, 102, rfl⟩
abbrev main_v51 : Ref sig .tc := ⟨.hbm, 103, rfl⟩
abbrev main_v52 : Ref sig .tc := ⟨.hbm, 104, rfl⟩
abbrev main_cst_8 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_cst_9 : Ref sig .tc := ⟨.hbm, 109, rfl⟩
abbrev main_v56 : Ref sig .tc := ⟨.hbm, 110, rfl⟩
abbrev main_v57 : Ref sig .tc := ⟨.hbm, 111, rfl⟩
abbrev main_cst_10 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_v61 : Ref sig .tc := ⟨.hbm, 116, rfl⟩
abbrev main_v62 : Ref sig .tc := ⟨.hbm, 117, rfl⟩
abbrev main_v63 : Ref sig .tc := ⟨.hbm, 118, rfl⟩
abbrev main_v64 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_cst_11 : Ref sig .tc := ⟨.hbm, 139, rfl⟩
abbrev main_v84 : Ref sig .tc := ⟨.hbm, 140, rfl⟩
abbrev main_v85 : Ref sig .tc := ⟨.hbm, 141, rfl⟩
abbrev main_cst_12 : Ref sig .tc := ⟨.hbm, 142, rfl⟩
abbrev main_v86 : Ref sig .tc := ⟨.hbm, 143, rfl⟩
abbrev main_v87 : Ref sig .tc := ⟨.hbm, 144, rfl⟩
abbrev main_cst_13 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_v92 : Ref sig .tc := ⟨.hbm, 150, rfl⟩
abbrev main_v93 : Ref sig .tc := ⟨.hbm, 151, rfl⟩
abbrev main_v94 : Ref sig .tc := ⟨.hbm, 152, rfl⟩
abbrev main_v95 : Ref sig .tc := ⟨.hbm, 153, rfl⟩
abbrev main_v96 : Ref sig .tc := ⟨.hbm, 154, rfl⟩
abbrev main_v97 : Ref sig .tc := ⟨.hbm, 155, rfl⟩
abbrev main_cst_14 : Ref sig .tc := ⟨.hbm, 156, rfl⟩
abbrev main_v98 : Ref sig .tc := ⟨.hbm, 157, rfl⟩
abbrev main_v99 : Ref sig .tc := ⟨.hbm, 158, rfl⟩
abbrev main_cst_15 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_cst_16 : Ref sig .tc := ⟨.hbm, 163, rfl⟩
abbrev main_v103 : Ref sig .tc := ⟨.hbm, 164, rfl⟩
abbrev main_v104 : Ref sig .tc := ⟨.hbm, 165, rfl⟩
abbrev main_cst_17 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_v114 : Ref sig .tc := ⟨.hbm, 176, rfl⟩
abbrev main_v115 : Ref sig .tc := ⟨.hbm, 177, rfl⟩
abbrev main_v116 : Ref sig .tc := ⟨.hbm, 178, rfl⟩
abbrev main_v117 : Ref sig .tc := ⟨.hbm, 179, rfl⟩
abbrev main_v118 : Ref sig .tc := ⟨.hbm, 180, rfl⟩
abbrev main_v119 : Ref sig .tc := ⟨.hbm, 181, rfl⟩
abbrev main_v120 : Ref sig .tc := ⟨.hbm, 182, rfl⟩
abbrev main_v121 : Ref sig .tc := ⟨.hbm, 183, rfl⟩
abbrev main_v122 : Ref sig .tc := ⟨.hbm, 184, rfl⟩
abbrev main_v123 : Ref sig .tc := ⟨.hbm, 185, rfl⟩
abbrev main_v124 : Ref sig .tc := ⟨.hbm, 186, rfl⟩
abbrev main_v125 : Ref sig .tc := ⟨.hbm, 187, rfl⟩
abbrev main_v126 : Ref sig .tc := ⟨.hbm, 188, rfl⟩
abbrev main_v127 : Ref sig .tc := ⟨.hbm, 189, rfl⟩
abbrev main_v128 : Ref sig .tc := ⟨.hbm, 190, rfl⟩
abbrev main_cst_18 : Ref sig .tc := ⟨.hbm, 191, rfl⟩
abbrev main_v129 : Ref sig .tc := ⟨.hbm, 192, rfl⟩
abbrev main_v130 : Ref sig .tc := ⟨.hbm, 193, rfl⟩
abbrev main_cst_19 : Ref sig .tc := ⟨.hbm, 194, rfl⟩
abbrev main_v131 : Ref sig .tc := ⟨.hbm, 195, rfl⟩
abbrev main_v132 : Ref sig .tc := ⟨.hbm, 196, rfl⟩
abbrev main_v133 : Ref sig .tc := ⟨.hbm, 197, rfl⟩
abbrev main_cst_20 : Ref sig .tc := ⟨.hbm, 198, rfl⟩
abbrev main_v134 : Ref sig .tc := ⟨.hbm, 199, rfl⟩
abbrev main_v135 : Ref sig .tc := ⟨.hbm, 200, rfl⟩
abbrev main_cst_21 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_cst_22 : Ref sig .tc := ⟨.hbm, 229, rfl⟩
abbrev main_v163 : Ref sig .tc := ⟨.hbm, 230, rfl⟩
abbrev main_v164 : Ref sig .tc := ⟨.hbm, 231, rfl⟩
abbrev main_cst_23 : Ref sig .tc := ⟨.hbm, 232, rfl⟩
abbrev main_v165 : Ref sig .tc := ⟨.hbm, 233, rfl⟩
abbrev main_cst_24 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩
abbrev main_v169 : Ref sig .tc := ⟨.hbm, 238, rfl⟩
abbrev main_v170 : Ref sig .tc := ⟨.hbm, 239, rfl⟩
abbrev main_v171 : Ref sig .tc := ⟨.hbm, 240, rfl⟩
abbrev main_cst_25 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_v175 : Ref sig .tc := ⟨.hbm, 245, rfl⟩
abbrev main_v176 : Ref sig .tc := ⟨.hbm, 246, rfl⟩
abbrev main_v177 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩

abbrev nD : Nat := 1
abbrev τ : Topo := Topo.v7x

variable {F : FTy → Type} [FloatOps F]
-- ==== Kernel2.lean ====
abbrev S32x2048x1024 : Shape := ⟨3, ![32, 2048, 1024]⟩
abbrev S32x2048x256 : Shape := ⟨3, ![32, 2048, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S1024x2816 : Shape := ⟨2, ![1024, 2816]⟩
abbrev S1024x11x256 : Shape := ⟨3, ![1024, 11, 256]⟩
abbrev S11x1024x256 : Shape := ⟨3, ![11, 1024, 256]⟩
abbrev S11x256x1024 : Shape := ⟨3, ![11, 256, 1024]⟩
abbrev S4x256x1024 : Shape := ⟨3, ![4, 256, 1024]⟩
abbrev S65536x1024 : Shape := ⟨2, ![65536, 1024]⟩
abbrev S65536x256 : Shape := ⟨2, ![65536, 256]⟩
abbrev S1x1024 : Shape := ⟨2, ![1, 1024]⟩
abbrev S1024x256 : Shape := ⟨2, ![1024, 256]⟩
abbrev S1x256x1024 : Shape := ⟨3, ![1, 256, 1024]⟩
abbrev S256x1024 : Shape := ⟨2, ![256, 1024]⟩
abbrev S1024x1 : Shape := ⟨2, ![1024, 1]⟩
abbrev S1x1024x256 : Shape := ⟨3, ![1, 1024, 256]⟩

abbrev nBuf : Space → Nat
  | .hbm => 31
  | .vmem => 20
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .bf16⟩
  | .hbm, ⟨2, _⟩ => ⟨S32x2048x256, .bf16⟩
  | .hbm, ⟨3, _⟩ => ⟨S32x2048x256, .bf16⟩
  | .hbm, ⟨4, _⟩ => ⟨S32x2048x256, .bf16⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S1024x5632, .bf16⟩
  | .hbm, ⟨12, _⟩ => ⟨S1024x2816, .bf16⟩
  | .hbm, ⟨13, _⟩ => ⟨S1024x11x256, .bf16⟩
  | .hbm, ⟨14, _⟩ => ⟨S11x1024x256, .bf16⟩
  | .hbm, ⟨15, _⟩ => ⟨S1024x2816, .bf16⟩
  | .hbm, ⟨16, _⟩ => ⟨S1024x11x256, .bf16⟩
  | .hbm, ⟨17, _⟩ => ⟨S11x1024x256, .bf16⟩
  | .hbm, ⟨18, _⟩ => ⟨S2816x1024, .bf16⟩
  | .hbm, ⟨19, _⟩ => ⟨S11x256x1024, .bf16⟩
  | .hbm, ⟨20, _⟩ => ⟨S1024x1024, .bf16⟩
  | .hbm, ⟨21, _⟩ => ⟨S4x256x1024, .bf16⟩
  | .hbm, ⟨22, _⟩ => ⟨S65536x1024, .f32⟩
  | .hbm, ⟨23, _⟩ => ⟨S65536x256, .bf16⟩
  | .hbm, ⟨24, _⟩ => ⟨S65536x256, .bf16⟩
  | .hbm, ⟨25, _⟩ => ⟨S65536x256, .bf16⟩
  | .hbm, ⟨26, _⟩ => ⟨S65536x256, .bf16⟩
  | .hbm, ⟨27, _⟩ => ⟨S1x1024, .f32⟩
  | .hbm, ⟨28, _⟩ => ⟨S1x1024, .f32⟩
  | .hbm, ⟨29, _⟩ => ⟨S1x1024, .f32⟩
  | .hbm, ⟨30, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S4x256x1024, .bf16⟩
  | .local _ .vmem, ⟨11, _⟩ => ⟨S1x1024, .f32⟩
  | .local _ .vmem, ⟨12, _⟩ => ⟨S1x1024, .f32⟩
  | .local _ .vmem, ⟨13, _⟩ => ⟨S11x1024x256, .bf16⟩
  | .local _ .vmem, ⟨14, _⟩ => ⟨S11x1024x256, .bf16⟩
  | .local _ .vmem, ⟨15, _⟩ => ⟨S11x256x1024, .bf16⟩
  | .local _ .vmem, ⟨16, _⟩ => ⟨S1x1024, .f32⟩
  | .local _ .vmem, ⟨17, _⟩ => ⟨S1024x1024, .f32⟩
  | .local _ .vmem, ⟨18, _⟩ => ⟨S1024x1024, .f32⟩
  | .local _ .vmem, ⟨19, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S11x1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S11x1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S11x256x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1024x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference2Ideal.lean ====
abbrev S32x2048x1024 : Shape := ⟨3, ![32, 2048, 1024]⟩
abbrev S32x2048x256 : Shape := ⟨3, ![32, 2048, 256]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x5632 : Shape := ⟨3, ![32, 2048, 5632]⟩
abbrev S32x2048x2816 : Shape := ⟨3, ![32, 2048, 2816]⟩
abbrev S65536x1024 : Shape := ⟨2, ![65536, 1024]⟩

abbrev nBuf : Space → Nat
  | .hbm => 82
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x256, .bf16⟩
  | .hbm, ⟨2, _⟩ => ⟨S32x2048x256, .bf16⟩
  | .hbm, ⟨3, _⟩ => ⟨S32x2048x256, .bf16⟩
  | .hbm, ⟨4, _⟩ => ⟨S32x2048x256, .bf16⟩
  | .hbm, ⟨5, _⟩ => ⟨S1024x1024, .f32⟩
  | .hbm, ⟨6, _⟩ => ⟨S1024, .f32⟩
  | .hbm, ⟨7, _⟩ => ⟨S1024, .f32⟩
  | .hbm, ⟨8, _⟩ => ⟨S1024x5632, .f32⟩
  | .hbm, ⟨9, _⟩ => ⟨S2816x1024, .f32⟩
  | .hbm, ⟨10, _⟩ => ⟨S1024, .f32⟩
  | .hbm, ⟨11, _⟩ => ⟨S32x2048x256, .f32⟩
  | .hbm, ⟨12, _⟩ => ⟨S32x2048x256, .f32⟩
  | .hbm, ⟨13, _⟩ => ⟨S32x2048x256, .f32⟩
  | .hbm, ⟨14, _⟩ => ⟨S32x2048x256, .f32⟩
  | .hbm, ⟨15, _⟩ => ⟨S32x2048x1024, .f32⟩
  | .hbm, ⟨16, _⟩ => ⟨S32x2048x1024, .f32⟩
  | .hbm, ⟨17, _⟩ => ⟨S32x2048x1024, .f32⟩
  | .hbm, ⟨18, _⟩ => ⟨S_, .f32⟩
  | .hbm, ⟨19, _⟩ => ⟨S32x2048, .f32⟩
  | .hbm, ⟨20, _⟩ => ⟨S32x2048x1, .f32⟩
  | .hbm, ⟨21, _⟩ => ⟨S_, .f32⟩
  | .hbm, ⟨22, _⟩ => ⟨S32x2048x1, .f32⟩
  | .hbm, ⟨23, _⟩ => ⟨S32x2048x1, .f32⟩
  | .hbm, ⟨24, _⟩ => ⟨S_, .f32⟩
  | .hbm, ⟨25, _⟩ => ⟨S32x2048x1, .f32⟩
  | .hbm, ⟨26, _⟩ => ⟨S32x2048x1, .f32⟩
  | .hbm, ⟨27, _⟩ => ⟨S32x2048x1, .f32⟩
  | .hbm, ⟨28, _⟩ => ⟨S32x2048x1024, .f32⟩
  | .hbm, ⟨29, _⟩ => ⟨S32x2048x1024, .f32⟩
  | .hbm, ⟨30, _⟩ => ⟨S1x1x1024, .f32⟩
  | .hbm, ⟨31, _⟩ => ⟨S32x2048x1024, .f32⟩
  | .hbm, ⟨32, _⟩ => ⟨S32x2048x1024, .f32⟩
  | .hbm, ⟨33, _⟩ => ⟨S32x2048x1024, .f32⟩
  | .hbm, ⟨34, _⟩ => ⟨S32x2048x1024, .f32⟩
  | .hbm, ⟨35, _⟩ => ⟨S_, .f32⟩
  | .hbm, ⟨36, _⟩ => ⟨S32x2048, .f32⟩
  | .hbm, ⟨37, _⟩ => ⟨S32x2048x1, .f32⟩
  | .hbm, ⟨38, _⟩ => ⟨S_, .f32⟩
  | .hbm, ⟨39, _⟩ => ⟨S32x2048x1, .f32⟩
  | .hbm, ⟨40, _⟩ => ⟨S32x2048x1, .f32⟩
  | .hbm, ⟨41, _⟩ => ⟨S_, .f32⟩
  | .hbm, ⟨42, _⟩ => ⟨S32x2048x1, .f32⟩
  | .hbm, ⟨43, _⟩ => ⟨S32x2048x1, .f32⟩
  | .hbm, ⟨44, _⟩ => ⟨S32x2048x1, .f32⟩
  | .hbm, ⟨45, _⟩ => ⟨S32x2048x1024, .f32⟩
  | .hbm, ⟨46, _⟩ => ⟨S32x2048x1024, .f32⟩
  | .hbm, ⟨47, _⟩ => ⟨S1x1x1024, .f32⟩
  | .hbm, ⟨48, _⟩ => ⟨S32x2048x1024, .f32⟩
  | .hbm, ⟨49, _⟩ => ⟨S32x2048x1024, .f32⟩
  | .hbm, ⟨50, _⟩ => ⟨S32x2048x5632, .f32⟩
  | .hbm, ⟨51, _⟩ => ⟨S32x2048x2816, .f32⟩
  | .hbm, ⟨52, _⟩ => ⟨S32x2048x2816, .f32⟩
  | .hbm, ⟨53, _⟩ => ⟨S32x2048x2816, .f32⟩
  | .hbm, ⟨54, _⟩ => ⟨S32x2048x2816, .f32⟩
  | .hbm, ⟨55, _⟩ => ⟨S_, .f32⟩
  | .hbm, ⟨56, _⟩ => ⟨S32x2048x2816, .f32⟩
  | .hbm, ⟨57, _⟩ => ⟨S32x2048x2816, .f32⟩
  | .hbm, ⟨58, _⟩ => ⟨S_, .f32⟩
  | .hbm, ⟨59, _⟩ => ⟨S32x2048x2816, .f32⟩
  | .hbm, ⟨60, _⟩ => ⟨S32x2048x2816, .f32⟩
  | .hbm, ⟨61, _⟩ => ⟨S32x2048x2816, .f32⟩
  | .hbm, ⟨62, _⟩ => ⟨S32x2048x2816, .f32⟩
  | .hbm, ⟨63, _⟩ => ⟨S32x2048x1024, .f32⟩
  | .hbm, ⟨64, _⟩ => ⟨S32x2048x1024, .f32⟩
  | .hbm, ⟨65, _⟩ => ⟨S_, .f32⟩
  | .hbm, ⟨66, _⟩ => ⟨S32x2048, .f32⟩
  | .hbm, ⟨67, _⟩ => ⟨S32x2048x1, .f32⟩
  | .hbm, ⟨68, _⟩ => ⟨S_, .f32⟩
  | .hbm, ⟨69, _⟩ => ⟨S32x2048x1, .f32⟩
  | .hbm, ⟨70, _⟩ => ⟨S32x2048x1, .f32⟩
  | .hbm, ⟨71, _⟩ => ⟨S_, .f32⟩
  | .hbm, ⟨72, _⟩ => ⟨S32x2048x1, .f32⟩
  | .hbm, ⟨73, _⟩ => ⟨S32x2048x1, .f32⟩
  | .hbm, ⟨74, _⟩ => ⟨S32x2048x1, .f32⟩
  | .hbm, ⟨75, _⟩ => ⟨S32x2048x1024, .f32⟩
  | .hbm, ⟨76, _⟩ => ⟨S32x2048x1024, .f32⟩
  | .hbm, ⟨77, _⟩ => ⟨S1x1x1024, .f32⟩
  | .hbm, ⟨78, _⟩ => ⟨S32x2048x1024, .f32⟩
  | .hbm, ⟨79, _⟩ => ⟨S32x2048x1024, .f32⟩
  | .hbm, ⟨80, _⟩ => ⟨S32x2048x1024, .f32⟩
  | .hbm, ⟨81, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_call0_v0 : Ref sig .tc := ⟨.hbm, 53, rfl⟩
abbrev main_call0_v1 : Ref sig .tc := ⟨.hbm, 54, rfl⟩
abbrev main_call0_cst : Ref sig .tc := ⟨.hbm, 55, rfl⟩
abbrev main_call0_v2 : Ref sig .tc := ⟨.hbm, 56, rfl⟩
abbrev main_call0_v3 : Ref sig .tc := ⟨.hbm, 57, rfl⟩
abbrev main_call0_cst_0 : Ref sig .tc := ⟨.hbm, 58, rfl⟩
abbrev main_call0_v4 : Ref sig .tc := ⟨.hbm, 59, rfl⟩
abbrev main_call0_v5 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_5 : Ref sig .tc := ⟨.hbm, 65, rfl⟩
abbrev main_v40 : Ref sig .tc := ⟨.hbm, 66, rfl⟩
abbrev main_v41 : Ref sig .tc := ⟨.hbm, 67, rfl⟩
abbrev main_cst_6 : Ref sig .tc := ⟨.hbm, 68, rfl⟩
abbrev main_v42 : Ref sig .tc := ⟨.hbm, 69, rfl⟩
abbrev main_v43 : Ref sig .tc := ⟨.hbm, 70, rfl⟩
abbrev main_cst_7 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩

abbrev nD : Nat := 1
abbrev τ : Topo := Topo.v7x

variable {F : FTy → Type} [FloatOps F]
-- ==== Kernel3.lean ====
abbrev S32x2048x1024 : Shape := ⟨3, ![32, 2048, 1024]⟩
abbrev S1024 : Shape := ⟨1, ![1024]⟩
abbrev S1024x2464 : Shape := ⟨2, ![1024, 2464]⟩
abbrev S32 : Shape := ⟨1, ![32]⟩
abbrev S65536x1024 : Shape := ⟨2, ![65536, 1024]⟩
abbrev S1x1024 : Shape := ⟨2, ![1, 1024]⟩
abbrev S1024x32 : Shape := ⟨2, ![1024, 32]⟩
abbrev S1024x1792 : Shape := ⟨2, ![1024, 1792]⟩
abbrev S1024x256 : Shape := ⟨2, ![1024, 256]⟩
abbrev S1024x128 : Shape := ⟨2, ![1024, 128]⟩
abbrev S_ : Shape := ⟨0, ![]⟩
abbrev S1024x64 : Shape := ⟨2, ![1024, 64]⟩
abbrev S32x1 : Shape := ⟨2, ![32, 1]⟩
abbrev S1x32 : Shape := ⟨2, ![1, 32]⟩
abbrev S1024x2560 : Shape := ⟨2, ![1024, 2560]⟩
abbrev S65536x2560 : Shape := ⟨2, ![65536, 2560]⟩
abbrev S1024x1024 : Shape := ⟨2, ![1024, 1024]⟩
abbrev S1024x1 : Shape := ⟨2, ![1024, 1]⟩

abbrev nBuf : Space → Nat
  | .hbm => 27
  | .vmem => 6
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2464, .f32⟩
  | .hbm, ⟨3, _⟩ => ⟨S32, .i32⟩
  | .hbm, ⟨4, _⟩ => ⟨S32, .i1⟩
  | .hbm, ⟨5, _⟩ => ⟨S32, .f32⟩
  | .hbm, ⟨6, _⟩ => ⟨S65536x1024, .f32⟩
  | .hbm, ⟨7, _⟩ => ⟨S1x1024, .f32⟩
  | .hbm, ⟨8, _⟩ => ⟨S1024x32, .f32⟩
  | .hbm, ⟨9, _⟩ => ⟨S1024x1792, .f32⟩
  | .hbm, ⟨10, _⟩ => ⟨S1024x256, .f32⟩
  | .hbm, ⟨11, _⟩ => ⟨S1024x256, .f32⟩
  | .hbm, ⟨12, _⟩ => ⟨S1024x128, .f32⟩
  | .hbm, ⟨13, _⟩ => ⟨S_, .f32⟩
  | .hbm, ⟨14, _⟩ => ⟨S1024x64, .f32⟩
  | .hbm, ⟨15, _⟩ => ⟨S_, .i32⟩
  | .hbm, ⟨16, _⟩ => ⟨S32, .i32⟩
  | .hbm, ⟨17, _⟩ => ⟨S32, .i32⟩
  | .hbm, ⟨18, _⟩ => ⟨S32, .i32⟩
  | .hbm, ⟨19, _⟩ => ⟨S32x1, .i32⟩
  | .hbm, ⟨20, _⟩ => ⟨S1024x32, .f32⟩
  | .hbm, ⟨21, _⟩ => ⟨S1x32, .f32⟩
  | .hbm, ⟨22, _⟩ => ⟨S1024x32, .f32⟩
  | .hbm, ⟨23, _⟩ => ⟨S1024x32, .f32⟩
  | .hbm, ⟨24, _⟩ => ⟨S1024x2560, .f32⟩
  | .hbm, ⟨25, _⟩ => ⟨S1024x2560, .bf16⟩
  | .hbm, ⟨26, _⟩ => ⟨S65536x2560, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2560, .bf16⟩
  | .local _ .vmem, ⟨4, _⟩ => ⟨S1024x2560, .f32⟩
  | .local _ .vmem, ⟨5, _⟩ => ⟨S1024x2560, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2560 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S32x2048x1024 : Shape := ⟨3, ![32, 2048, 1024]⟩
abbrev S1024 : Shape := ⟨1, ![1024]⟩
abbrev S1024x2464 : Shape := ⟨2, ![1024, 2464]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S32x2048x2464 : Shape := ⟨3, ![32, 2048, 2464]⟩
abbrev S32x2048x32 : Shape := ⟨3, ![32, 2048, 32]⟩
abbrev S32x2048x16 : Shape := ⟨3, ![32, 2048, 16]⟩
abbrev S32x2048x1792 : Shape := ⟨3, ![32, 2048, 1792]⟩
abbrev S32x2048x256 : Shape := ⟨3, ![32, 2048, 256]⟩
abbrev S32x2048x128 : Shape := ⟨3, ![32, 2048, 128]⟩
abbrev S32x2048x64 : Shape := ⟨3, ![32, 2048, 64]⟩
abbrev S32x2048x2560 : Shape := ⟨3, ![32, 2048, 2560]⟩
abbrev S65536x2560 : Shape := ⟨2, ![65536, 2560]⟩

abbrev nBuf : Space → Nat
  | .hbm => 33
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1024, .f32⟩
  | .hbm, ⟨2, _⟩ => ⟨S1024x2464, .f32⟩
  | .hbm, ⟨3, _⟩ => ⟨S32x2048x1024, .f32⟩
  | .hbm, ⟨4, _⟩ => ⟨S_, .f32⟩
  | .hbm, ⟨5, _⟩ => ⟨S32x2048, .f32⟩
  | .hbm, ⟨6, _⟩ => ⟨S32x2048x1, .f32⟩
  | .hbm, ⟨7, _⟩ => ⟨S_, .f32⟩
  | .hbm, ⟨8, _⟩ => ⟨S32x2048x1, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S32x2048x1, .f32⟩
  | .hbm, ⟨14, _⟩ => ⟨S32x2048x1024, .f32⟩
  | .hbm, ⟨15, _⟩ => ⟨S32x2048x1024, .f32⟩
  | .hbm, ⟨16, _⟩ => ⟨S1x1x1024, .f32⟩
  | .hbm, ⟨17, _⟩ => ⟨S32x2048x1024, .f32⟩
  | .hbm, ⟨18, _⟩ => ⟨S32x2048x1024, .f32⟩
  | .hbm, ⟨19, _⟩ => ⟨S32x2048x2464, .f32⟩
  | .hbm, ⟨20, _⟩ => ⟨S32x2048x32, .f32⟩
  | .hbm, ⟨21, _⟩ => ⟨S32x2048x16, .f32⟩
  | .hbm, ⟨22, _⟩ => ⟨S32x2048x16, .f32⟩
  | .hbm, ⟨23, _⟩ => ⟨S32x2048x16, .f32⟩
  | .hbm, ⟨24, _⟩ => ⟨S32x2048x32, .f32⟩
  | .hbm, ⟨25, _⟩ => ⟨S32x2048x1792, .f32⟩
  | .hbm, ⟨26, _⟩ => ⟨S32x2048x256, .f32⟩
  | .hbm, ⟨27, _⟩ => ⟨S32x2048x256, .f32⟩
  | .hbm, ⟨28, _⟩ => ⟨S32x2048x128, .f32⟩
  | .hbm, ⟨29, _⟩ => ⟨S_, .f32⟩
  | .hbm, ⟨30, _⟩ => ⟨S32x2048x64, .f32⟩
  | .hbm, ⟨31, _⟩ => ⟨S32x2048x2560, .f32⟩
  | .hbm, ⟨32, _⟩ => ⟨S65536x2560, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Proof.KernelIdealFrame.lean ====
/-
  The attention call's frame for `KernelIdeal`: its body is run once at symbolic operands, through the counted loop by the
  listed invariant of that loop, and the launch follows with the output block left unnamed.
-/
module

public import proofs.«01_k».proof.Proof.Gen.KernelIdeal.Frame
public import proofs.«01_k».proof.Proof.Gen.KernelIdeal.Loops

@[expose] public section

set_option maxRecDepth 16384

noncomputable section

namespace Cert.Proof.KernelIdealFrame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body, from its seven inputs at their contents and the output and the scratch at any: it returns the inputs as
    they were. -/
theorem body_runs (c : Dev nD) (i : grid0.Coords) (arg1 : Memref sig .tc .vmem S1x2048x256 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S8x128x256 .f32) (harg4 : arg4.IsWhole) (arg5 : Memref sig .tc .vmem S8x128x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2048x256 .bf16) (harg8 : arg8.IsWhole) (arg9 : Memref sig .tc .vmem S8x512x256 .bf16) (harg9 : arg9.IsWhole) (arg10 : Memref sig .tc .vmem S2048x128 .bf16) (harg10 : arg10.IsWhole) (arg11 : Memref sig .tc .vmem S2x8x80x256 .bf16) (harg11 : arg11.IsWhole) (arg12 : Memref sig .tc .vmem S2x2048x256 .f32) (harg12 : arg12.IsWhole) (arg13 : Memref sig .tc .vmem S4x80x256 .f32) (harg13 : arg13.IsWhole) (x0 : Vec F S1x2048x256 .f32) (x1 : Vec F S1x2048x128 .f32) (x2 : Vec F S1x2048x128 .f32) (x3 : Vec F S8x128x256 .f32) (x4 : Vec F S8x128x256 .f32) (x5 : Vec F S2048x128 .f32) (x6 : Vec F S2048x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) Set.univ (cc0_gqa_attention i arg1 harg1 arg2 harg2 arg3 harg3 arg4 harg4 arg5 harg5 arg6 harg6 arg7 harg7 arg8 harg8 arg9 harg9 arg10 harg10 arg11 harg11 arg12 harg12 arg13 harg13) K := by
  simp only [cc0_gqa_attention_eq_skeleton]; unfold cc0_gqa_attention_skel
  simp only [k0_part80_eq_skeleton]; unfold k0_part80_skel
  simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; iexists _; isplitr
    swap; · iexact H7
    ipureintro; rfl
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  iexists _; iexists _; isplitr
  swap; · iexact H12
  ipureintro; rfl

/-- The call's proof data: the inputs' buffers at their blocks; the output's contents are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

/-- The output window, the eighth, is the one left unnamed. -/
abbrev fgt : Fin cfg0.W → Bool := fun w => match w with
  | ⟨7, _⟩ => true
  | _ => false

/-- The scoped rest is the five scratch buffers at some contents. -/
theorem PhiA_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)) ∗ (∃ r, prngReg c r)) := by
  unfold Pipeline.ΦA; rw [scopedRest0_eq]; simp only [owns_whole]; try rfl

theorem sound_body (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare d))
    ⊢ wp frame (wpE (defs₀ (F := F)) Variants.none c none) Set.univ (bodyAt0 t) (fun _ =>
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ d, owns (c : Thread nD τ) (st0_7 t) fullShare d))) := by
  unfold bodyAt0
  simp only [before_0 m, before_1 m, before_2 m, before_3 m, before_4 m, before_5 m, before_6 m]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, PhiA_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, H7⟩
  iapply (body_runs c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  iintro ⟨H0, H1, H2, H3, H4, H5, H6, H7, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (c : Dev nD) :
    BodyObligation (dats (F := F) m 0 c) (defs₀ (F := F)) Variants.none () Set.univ fgt := fun t => by
  rw [bigSep_W0, bigSep_W0]
  exact triple_restated (sound_body m c t) (by unfold defs₀; rw [Defs.onTc_tc]) .rfl fun _ => .rfl

set_option backward.isDefEq.respectTransparency.types false in
/-- The launch: the arguments end unchanged and every semaphore counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget_shared (Q' := _) cfgs (dats m) (0 : Fin 1) launch₀0 defs₀ Variants.none fgt m ρ main
    (hbody := fun c => (body_obligation m c).loose) (hq := fun _ _ _ => rfl)
    (howed := fun _ _ => rfl) (V := V m) (hmain := hmain m Variants.none) (hA := A_eq m) (hΦ := fun _ _ => rfl)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨((h.1 c).2 main_arg0 (Pipeline.mem_restRefs_of main_arg0 (by decide) (by decide))).trans (V_main_arg0 m c),
     ((h.1 c).2 main_arg1 (Pipeline.mem_restRefs_of main_arg1 (by decide) (by decide))).trans (V_main_arg1 m c),
     ((h.1 c).2 main_arg2 (Pipeline.mem_restRefs_of main_arg2 (by decide) (by decide))).trans (V_main_arg2 m c),
     ((h.1 c).2 main_arg3 (Pipeline.mem_restRefs_of main_arg3 (by decide) (by decide))).trans (V_main_arg3 m c),
     ((h.1 c).2 main_arg4 (Pipeline.mem_restRefs_of main_arg4 (by decide) (by decide))).trans (V_main_arg4 m c),
     ((h.1 c).2 main_arg5 (Pipeline.mem_restRefs_of main_arg5 (by decide) (by decide))).trans (V_main_arg5 m c)⟩, h.2⟩) (run_main m ρ)

end Cert.Proof.KernelIdealFrame

end
-- ==== Proof.PostBlock.lean ====
/- One token block of the out-projection and feed-forward call, over the extended reals: what the body's straight line
   of stores leaves in the output block, read at a row and a column. -/
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

namespace Cert.Proof.Post

open Idealize.ShloMosaic Idealize.ShloMosaic.TcCoe Idealize.SL.Sem

/-- The root-mean-square normalisation of a row `y` with gain `g`, at column `j`. -/
def normed (y g : Fin 1024 → EReal) (j : Fin 1024) : EReal :=
  y j * Ideal.rsqrt (Ideal.div (∑ k, y k * y k) (Ideal.ofBits .f32 0x44800000#32) + Ideal.ofBits .f32 0x358637BD#32) * g j

/-- The gated unit: `a · logistic a · b`. -/
def swiglu (a b : EReal) : EReal := a * Ideal.logistic a * b

/-- The row after the mixer's residual connection. -/
def resid (x mix g : Fin 1024 → EReal) (j : Fin 1024) : EReal := x j + normed mix g j

/-- The row of the feed-forward part's hidden products: gate column and up column, by unit `n`. -/
def hidden (h : Fin 1024 → EReal) (gate up : Fin 1024 → EReal) : EReal :=
  swiglu (∑ k, h k * gate k) (∑ k, h k * up k)

open Cert.Kernel2Ideal Cert.Kernel2Ideal.Gen

/-- The mixed row of one block: four products of 256 columns each. -/
def mixOf (x1 x2 x3 x4 : FVec Ideal S1024x256 .bf16) (w : Fin 4 → Fin 256 → Fin 1024 → EReal) (r j : Fin 1024) : EReal :=
  (∑ k : Fin 256, x1 (ix2 r k) * w 0 k j) + (∑ k : Fin 256, x2 (ix2 r k) * w 1 k j)
    + (∑ k : Fin 256, x3 (ix2 r k) * w 2 k j) + (∑ k : Fin 256, x4 (ix2 r k) * w 3 k j)

theorem pay3_apply (x1 : Vec Ideal S1024x256 .bf16) (w0 : Vec Ideal S1x256x1024 .bf16) (x2 : Vec Ideal S1024x256 .bf16)
    (w1 : Vec Ideal S1x256x1024 .bf16) (x3 : Vec Ideal S1024x256 .bf16) (w2 : Vec Ideal S1x256x1024 .bf16)
    (x4 : Vec Ideal S1024x256 .bf16) (w3 : Vec Ideal S1x256x1024 .bf16) (r j : Fin 1024) :
    k0_pay3 (F := Ideal) x1 w0 x2 w1 x3 w2 x4 w3 (ix2 r j) =
      (∑ k : Fin 256, x1 (ix2 r k) * w0 (ix3 0 k j)) + (∑ k : Fin 256, x2 (ix2 r k) * w1 (ix3 0 k j))
    + (∑ k : Fin 256, x3 (ix2 r k) * w2 (ix3 0 k j)) + (∑ k : Fin 256, x4 (ix2 r k) * w3 (ix3 0 k j)) := by
  pointwise [k0_pay3]

theorem pay11_apply (h : FVec Ideal S1024x1024 .bf16) (wg wu : Vec Ideal S1x1024x256 .bf16)
    (acc : Vec Ideal S1024x1024 .f32) (wd : Vec Ideal S1x256x1024 .bf16) (r j : Fin 1024) :
    k0_pay11 (F := Ideal) h wg wu acc wd (ix2 r j) = acc (ix2 r j) + ∑ n : Fin 256,
      hidden (fun k => h (ix2 r k)) (fun k => wg (ix3 0 k n)) (fun k => wu (ix3 0 k n)) * wd (ix3 0 n j) := by
  pointwise [k0_pay11, hidden, swiglu]

theorem pay6_apply (mix x : FVec Ideal S1024x1024 .f32) (ms : FVec Ideal S1024x1 .f32) (g : Vec Ideal S1x1024 .f32) (e : EReal) (r j : Fin 1024)
   : k0_pay6 (F := Ideal) mix x ms e g (ix2 r j) = x (ix2 r j) + mix (ix2 r j) * Ideal.rsqrt (ms (ix2 r 0) + e) * g (ix2 0 j) := by
  pointwise [k0_pay6]

theorem pay7_apply (mix x : FVec Ideal S1024x1024 .f32) (ms : FVec Ideal S1024x1 .f32) (g g2 : Vec Ideal S1x1024 .f32) (e : EReal) (r j : Fin 1024)
   : k0_pay7 (F := Ideal) mix x ms e g g2 (ix2 r j) = normed (fun k => k0_pay6 (F := Ideal) mix x ms e g (ix2 r k)) (fun k => g2 (ix2 0 k)) j := by
  pointwise [k0_pay7, normed]

theorem pay5_apply (x1 : Vec Ideal S1024x256 .bf16) (w0 : Vec Ideal S1x256x1024 .bf16) (x2 : Vec Ideal S1024x256 .bf16)
    (w1 : Vec Ideal S1x256x1024 .bf16) (x3 : Vec Ideal S1024x256 .bf16) (w2 : Vec Ideal S1x256x1024 .bf16)
    (x4 : Vec Ideal S1024x256 .bf16) (w3 : Vec Ideal S1x256x1024 .bf16) (r : Fin 1024) (z : Fin 1):
    k0_pay5 (F := Ideal) x1 w0 x2 w1 x3 w2 x4 w3 (ix2 r z) = Ideal.div (∑ k, k0_pay3 (F := Ideal) x1 w0 x2 w1 x3 w2 x4 w3 (ix2 r k) * k0_pay3 (F := Ideal) x1 w0 x2 w1 x3 w2 x4 w3 (ix2 r k)) (Ideal.ofBits .f32 0x44800000#32) := by
  pointwise [k0_pay5]

theorem pay2_apply (x f : FVec Ideal S1024x1024 .f32) (g : Vec Ideal S1x1024 .f32) (r j : Fin 1024)
   : k0_pay2 (F := Ideal) x f g (ix2 r j) = x (ix2 r j) + normed (fun k => f (ix2 r k)) (fun k => g (ix2 0 k)) j := by
  pointwise [k0_pay2, normed]
theorem step10 (v22 v24 : FVec Ideal S1024x1024 .f32) (v29 : FVec Ideal S1024x1 .f32) (e : Ideal .f32) (g g2 : Vec Ideal S1x1024 .f32)
   (wg wu : Vec Ideal S1x1024x256 .bf16)
    (acc : Vec Ideal S1024x1024 .f32) (wd : Vec Ideal S1x256x1024 .bf16) : k0_pay10 (k0_pay9 v22 v24 v29 e g g2 wg wu) acc wd = k0_pay11 (k0_pay7 v22 v24 v29 e g g2) wg wu acc wd := rfl
section
variable (h : FVec Ideal S1024x1024 .bf16) (wg wu : Vec Ideal S1x1024x256 .bf16)
    (acc : Vec Ideal S1024x1024 .f32) (wd : Vec Ideal S1x256x1024 .bf16)
theorem step13 : k0_pay13 h (k0_pay12 h wg) wu acc wd = k0_pay11 h wg wu acc wd := rfl
theorem step14 : k0_pay15 (k0_pay14 h wg wu acc wd) = k0_pay11 h wg wu acc wd := rfl
theorem step16 : k0_pay16 h wg wu acc wd = k0_pay11 h wg wu acc wd := rfl
theorem step18 : k0_pay18 (k0_pay17 h wg wu) acc wd = k0_pay11 h wg wu acc wd := rfl
theorem step19 : k0_pay19 h wg wu acc wd = k0_pay11 h wg wu acc wd := rfl
theorem step21 : k0_pay21 h (k0_pay20 h wg) wu acc wd = k0_pay11 h wg wu acc wd := rfl
theorem step22 : k0_pay23 (k0_pay22 h wg wu acc wd) = k0_pay11 h wg wu acc wd := rfl
theorem step24 : k0_pay24 h wg wu acc wd = k0_pay11 h wg wu acc wd := rfl
theorem step1 : k0_pay1 (k0_pay25 h wg wu) acc wd = k0_pay11 h wg wu acc wd := rfl
end

/-- The feed-forward row before its norm, in 11 chunks of 256 hidden units. -/
def feedBlk (h : Fin 1024 → EReal) (wg wu : Vec Ideal S11x1024x256 .bf16) (wd : Vec Ideal S11x256x1024 .bf16)
    (j : Fin 1024) : EReal :=
  ∑ i : Fin 11, ∑ n : Fin 256,
    hidden h (fun k => wg (ix3 i k n)) (fun k => wu (ix3 i k n)) * wd (ix3 i n j)

/-- What one block of the call leaves at row `r`, column `j`, from the blocks it reads. -/
def blockOut (x0 : Vec Ideal S1024x1024 .f32) (x1 x2 x3 x4 : Vec Ideal S1024x256 .bf16) (x5 : Vec Ideal S4x256x1024 .bf16)
    (x6 x7 : Vec Ideal S1x1024 .f32) (x8 x9 : Vec Ideal S11x1024x256 .bf16) (x10 : Vec Ideal S11x256x1024 .bf16)
    (x11 : Vec Ideal S1x1024 .f32) (r j : Fin 1024) : EReal :=
  let x := resid (fun k => x0 (ix2 r k)) (mixOf x1 x2 x3 x4 (fun i k j => x5 (ix3 i k j)) r) (fun k => x6 (ix2 0 k))
  x j + normed (feedBlk (normed x (fun k => x7 (ix2 0 k))) x8 x9 x10) (fun k => x11 (ix2 0 k)) j

theorem ld5 (x : Vec Ideal S4x256x1024 .bf16) (i : Nat) (hi : i < 4) (inb) (k : Fin 256) (j : Fin 1024) :
    View.ld x (Rect.unit ![i, 0, 0] ![1, 256, 1024] inb) (ix3 0 k j) = x (ix3 ⟨i, hi⟩ k j) := by
  pointwise
  done

theorem ld8 (x : Vec Ideal S11x1024x256 .bf16) (i : Nat) (hi : i < 11) (inb) (k : Fin 1024) (j : Fin 256) :
    View.ld x (Rect.unit ![i, 0, 0] ![1, 1024, 256] inb) (ix3 0 k j) = x (ix3 ⟨i, hi⟩ k j) := by
  pointwise
  done

theorem ld10 (x : Vec Ideal S11x256x1024 .bf16) (i : Nat) (hi : i < 11) (inb) (k : Fin 256) (j : Fin 1024) :
    View.ld x (Rect.unit ![i, 0, 0] ![1, 256, 1024] inb) (ix3 0 k j) = x (ix3 ⟨i, hi⟩ k j) := by
  pointwise
  done

/-- Eleven terms added one after the other, from zero. -/
theorem sum_eleven (c : Fin 11 → EReal) :
    ∑ i, c i = 0 + c 0 + c 1 + c 2 + c 3 + c 4 + c 5 + c 6 + c 7 + c 8 + c 9 + c 10 := by
  simp only [Fin.sum_univ_castSucc, Fin.sum_univ_zero]; rfl

theorem pay4_eq (x0 : Vec Ideal S1024x1024 .f32) : k0_pay4 x0 = x0 := by
  funext y; pointwise [k0_pay4]

theorem pay8_apply (r j : Fin 1024) : k0_pay8 (F := Ideal) (ix2 r j) = 0 := by
  pointwise [k0_pay8]

theorem resid_apply (x : FVec Ideal S1024x1024 .f32) (g : Vec Ideal S1x1024 .f32) (x1 : Vec Ideal S1024x256 .bf16)
    (w0 : Vec Ideal S1x256x1024 .bf16) (x2 : Vec Ideal S1024x256 .bf16)
    (w1 : Vec Ideal S1x256x1024 .bf16) (x3 : Vec Ideal S1024x256 .bf16) (w2 : Vec Ideal S1x256x1024 .bf16)
    (x4 : Vec Ideal S1024x256 .bf16) (w3 : Vec Ideal S1x256x1024 .bf16) (r j : Fin 1024) :
    k0_pay6 (F := Ideal) (k0_pay3 x1 w0 x2 w1 x3 w2 x4 w3) x (k0_pay5 x1 w0 x2 w1 x3 w2 x4 w3)
        (FloatOps.ofBits .f32 0x358637BD#32) g (ix2 r j)
      = resid (fun k => x (ix2 r k)) (fun k => k0_pay3 (F := Ideal) x1 w0 x2 w1 x3 w2 x4 w3 (ix2 r k))
          (fun k => g (ix2 0 k)) j := by
  rw [pay6_apply, pay5_apply]; rfl

variable (m : (ℓ : Loc nD τ sig) → Buf (Elt Ideal) ℓ)

theorem out_apply (c : Dev nD) (t : Fin cfg0.N) (r j : Fin 1024) :
    outsAt0 m c t (ix2 r j) = blockOut (iblk m c 0 t) (iblk m c 1 t) (iblk m c 2 t) (iblk m c 3 t) (iblk m c 4 t)
      (iblk m c 5 t) (iblk m c 6 t) (iblk m c 7 t) (iblk m c 8 t) (iblk m c 9 t) (iblk m c 10 t) (iblk m c 11 t) r j := by
  simp only [outsAt0]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  generalize iblk m c 8 t = x8
  generalize iblk m c 9 t = x9
  generalize iblk m c 10 t = x10
  generalize iblk m c 11 t = x11
  frame_open
  simp (disch := decide) only [↓ View.readCov_skip, ↓ View.readCov_cons_toLoadRect, ↓ View.readCov_fill]
  frame_out
  simp only [step10, step13, step14, step16, step18, step19, step21, step22, step24, step1]
  rw [pay2_apply, pay4_eq]
  simp only [pay11_apply, pay7_apply, resid_apply, pay3_apply, pay8_apply]
  simp (disch := decide) only [ld5 x5, ld8 x8, ld8 x9, ld10 x10]
  unfold blockOut feedBlk
  simp only [sum_eleven]
  rfl

end Cert.Proof.Post
-- ==== Proof.PostRef.lean ====
/- The reference of the out-projection and feed-forward call, read at a token and a column. -/
module

public import proofs.«01_k».proof.Proof.Gen.Reference2Ideal.Read
public import proofs.«01_k».proof.Proof.PostBlock

@[expose] public section

set_option maxRecDepth 16384

noncomputable section

namespace Cert.Proof.Post

open Idealize.ShloMosaic Idealize.ShloMosaic.TcCoe Idealize.SL.Sem

/-- The feed-forward row before its norm: a sum over the 2816 hidden units. -/
def feed (h : Fin 1024 → EReal) (wgu : Fin 1024 → Fin 5632 → EReal) (wd : Fin 2816 → Fin 1024 → EReal)
    (j : Fin 1024) : EReal :=
  ∑ n : Fin 2816, hidden h (fun k => wgu k ⟨n.val, by omega⟩) (fun k => wgu k ⟨2816 + n.val, by omega⟩) * wd n j

/-- One token's output row: the mixer's residual connection, then the feed-forward part's. -/
def postRow (x mix g1 g2 : Fin 1024 → EReal) (wgu : Fin 1024 → Fin 5632 → EReal) (wd : Fin 2816 → Fin 1024 → EReal)
    (g3 : Fin 1024 → EReal) (j : Fin 1024) : EReal :=
  resid x mix g1 j + normed (feed (normed (resid x mix g1) g2) wgu wd) g3 j

open Cert.Reference2Ideal Cert.Reference2Ideal.Read

variable (x0 : (⟨S32x2048x1024, .f32⟩ : BufTy).Contents (Elt Ideal))
  (x1 x2 x3 x4 : (⟨S32x2048x256, .bf16⟩ : BufTy).Contents (Elt Ideal))
  (x5 : (⟨S1024x1024, .f32⟩ : BufTy).Contents (Elt Ideal)) (x6 x7 : (⟨S1024, .f32⟩ : BufTy).Contents (Elt Ideal))
  (x8 : (⟨S1024x5632, .f32⟩ : BufTy).Contents (Elt Ideal)) (x9 : (⟨S2816x1024, .f32⟩ : BufTy).Contents (Elt Ideal))
  (x10 : (⟨S1024, .f32⟩ : BufTy).Contents (Elt Ideal))

/-- The mixers' outputs side by side, times the output projection. -/
theorem ref_mix (b : Fin 32) (s : Fin 2048) (j : Fin 1024) :
    val_main_v5 (F := Ideal) x1 x2 x3 x4 x5 (ix3 b s j) =
      ∑ e : Fin 1024, val_main_v4 (F := Ideal) x1 x2 x3 x4 (ix3 b s e) * x5 (ix2 e j) := by
  pointwise [val_main_v5]
  done

theorem ref_resid (b : Fin 32) (s : Fin 2048) (j : Fin 1024) :
    val_main_v19 (F := Ideal) x0 x1 x2 x3 x4 x5 x6 (ix3 b s j) =
      resid (fun k => x0 (ix3 b s k)) (fun k => val_main_v5 (F := Ideal) x1 x2 x3 x4 x5 (ix3 b s k))
        (fun k => x6 (ix1 k)) j := by
  pointwise [val_main_v19, val_main_v18, val_main_v17, val_main_v16, val_main_v15, val_main_v14, val_main_v13, val_main_v12,
    val_main_v11, val_main_v10, val_main_v9, val_main_v8, val_main_v7, val_main_v6, val_main_cst, val_main_cst_0, val_main_cst_1, resid, normed]
  done

theorem ref_norm (b : Fin 32) (s : Fin 2048) (j : Fin 1024) :
    val_main_v32 (F := Ideal) x0 x1 x2 x3 x4 x5 x6 x7 (ix3 b s j) =
      normed (fun k => val_main_v19 (F := Ideal) x0 x1 x2 x3 x4 x5 x6 (ix3 b s k)) (fun k => x7 (ix1 k)) j := by
  pointwise [val_main_v32, val_main_v31, val_main_v30, val_main_v29, val_main_v28, val_main_v27, val_main_v26, val_main_v25,
    val_main_v24, val_main_v23, val_main_v22, val_main_v21, val_main_v20, val_main_cst_2, val_main_cst_3, val_main_cst_4, normed]
  done

theorem ref_feed (b : Fin 32) (s : Fin 2048) (j : Fin 1024) :
    val_main_v38 (F := Ideal) x0 x1 x2 x3 x4 x5 x6 x7 x8 x9 (ix3 b s j) =
      feed (fun k => val_main_v32 (F := Ideal) x0 x1 x2 x3 x4 x5 x6 x7 (ix3 b s k)) (fun k n => x8 (ix2 k n)) (fun n j => x9 (ix2 n j)) j := by
  pointwise [val_main_v38, val_main_v37, val_main_v36, val_main_v35, val_main_v34, val_main_v33, val_main_call0_v0, val_main_call0_v1, val_main_call0_v2, val_main_call0_v3, val_main_call0_v4, val_main_call0_v5,
   val_main_call0_cst, val_main_call0_cst_0, feed, hidden, swiglu, Ideal.logistic]
  done

theorem ref_out (b : Fin 32) (s : Fin 2048) (j : Fin 1024) :
    val_main_v52 (F := Ideal) x0 x1 x2 x3 x4 x5 x6 x7 x8 x9 x10 (ix3 b s j) =
      val_main_v19 (F := Ideal) x0 x1 x2 x3 x4 x5 x6 (ix3 b s j) +
      normed (fun k => val_main_v38 (F := Ideal) x0 x1 x2 x3 x4 x5 x6 x7 x8 x9 (ix3 b s k)) (fun k => x10 (ix1 k)) j := by
  pointwise [val_main_v52, val_main_v51, val_main_v50, val_main_v49, val_main_v48, val_main_v47, val_main_v46, val_main_v45,
    val_main_v44, val_main_v43, val_main_v42, val_main_v41, val_main_v40, val_main_v39, val_main_cst_5, val_main_cst_6, val_main_cst_7, normed]
  done

theorem ref_all (T : Fin 65536) (j : Fin 1024) :
    val_main_v53 (F := Ideal) x0 x1 x2 x3 x4 x5 x6 x7 x8 x9 x10 (ix2 T j) =
      val_main_v52 (F := Ideal) x0 x1 x2 x3 x4 x5 x6 x7 x8 x9 x10 (ix3 ⟨T.val / 2048, by omega⟩ ⟨T.val % 2048, by omega⟩ j) := by
  pointwise [val_main_v53]
  done

/-- The four mixers' outputs side by side, one token's row. -/
def catRow (y1 y2 y3 y4 : Fin 256 → EReal) (e : Fin 1024) : EReal :=
  if _h : e.val < 256 then y1 ⟨e.val, by omega⟩
  else if _h : e.val - 256 < 256 then y2 ⟨e.val - 256, by omega⟩
  else if _h : e.val - 256 - 256 < 256 then y3 ⟨e.val - 256 - 256, by omega⟩
  else y4 ⟨e.val - 256 - 256 - 256, by omega⟩

theorem ref_cat (b : Fin 32) (s : Fin 2048) (e : Fin 1024) : val_main_v4 (F := Ideal) x1 x2 x3 x4 (ix3 b s e) =
    catRow (fun k => x1 (ix3 b s k)) (fun k => x2 (ix3 b s k)) (fun k => x3 (ix3 b s k)) (fun k => x4 (ix3 b s k)) e := by
  pointwise [val_main_v4, val_main_v3, val_main_v2, val_main_v1, val_main_v0, catRow]
  done

section
variable (y1 y2 y3 y4 : Fin 256 → EReal) (k : Fin 256)

theorem cat_first : catRow y1 y2 y3 y4 ⟨0 * 256 + k.val, by omega⟩ = y1 k := by
  unfold catRow
  rw [dif_pos (show (0 * 256 + k.val) < 256 by omega)]
  exact congrArg y1 (Fin.ext (show 0 * 256 + k.val = k.val by omega))

theorem cat_second : catRow y1 y2 y3 y4 ⟨1 * 256 + k.val, by omega⟩ = y2 k := by
  unfold catRow
  rw [dif_neg (show ¬ (1 * 256 + k.val) < 256 by omega), dif_pos (show (1 * 256 + k.val - 256) < 256 by omega)]
  exact congrArg y2 (Fin.ext (show 1 * 256 + k.val - 256 = k.val by omega))

theorem cat_third : catRow y1 y2 y3 y4 ⟨2 * 256 + k.val, by omega⟩ = y3 k := by
  unfold catRow
  rw [dif_neg (show ¬ (2 * 256 + k.val) < 256 by omega), dif_neg (show ¬ (2 * 256 + k.val - 256) < 256 by omega), dif_pos (show (2 * 256 + k.val - 256 - 256) < 256 by omega)]
  exact congrArg y3 (Fin.ext (show 2 * 256 + k.val - 256 - 256 = k.val by omega))

theorem cat_fourth : catRow y1 y2 y3 y4 ⟨3 * 256 + k.val, by omega⟩ = y4 k := by
  unfold catRow
  rw [dif_neg (show ¬ (3 * 256 + k.val) < 256 by omega), dif_neg (show ¬ (3 * 256 + k.val - 256) < 256 by omega), dif_neg (show ¬ (3 * 256 + k.val - 256 - 256) < 256 by omega)]
  exact congrArg y4 (Fin.ext (show 3 * 256 + k.val - 256 - 256 - 256 = k.val by omega))
end

/-- The four partial products, added, are the product of the joined row. -/
theorem mix_split (y1 y2 y3 y4 : Fin 256 → EReal) (w : Fin 1024 → EReal) :
    (∑ k : Fin 256, y1 k * w ⟨0 * 256 + k.val, by omega⟩) + (∑ k : Fin 256, y2 k * w ⟨1 * 256 + k.val, by omega⟩)
      + (∑ k : Fin 256, y3 k * w ⟨2 * 256 + k.val, by omega⟩) + (∑ k : Fin 256, y4 k * w ⟨3 * 256 + k.val, by omega⟩)
      = ∑ e : Fin 1024, catRow y1 y2 y3 y4 e * w e := by
  rw [← Fin.sum_mul_add_fin 4 256 (fun e => catRow y1 y2 y3 y4 e * w e)]
  simp only [Fin.sum_univ_castSucc (n := 3), Fin.sum_univ_castSucc (n := 2), Fin.sum_univ_castSucc (n := 1),
    Fin.sum_univ_castSucc (n := 0), Fin.sum_univ_zero, zero_add]
  refine congrArg₂ (· + ·) (congrArg₂ (· + ·) (congrArg₂ (· + ·) ?_ ?_) ?_) ?_ <;>
    refine Finset.sum_congr rfl fun k _ => congrArg₂ (· * ·) ?_ rfl
  · exact (cat_first y1 y2 y3 y4 k).symm
  · exact (cat_second y1 y2 y3 y4 k).symm
  · exact (cat_third y1 y2 y3 y4 k).symm
  · exact (cat_fourth y1 y2 y3 y4 k).symm

/-- The reference's result at a token and a column. -/
theorem ref_spec (T : Fin 65536) (j : Fin 1024) :
    val_main_v53 (F := Ideal) x0 x1 x2 x3 x4 x5 x6 x7 x8 x9 x10 (ix2 T j) =
      let b : Fin 32 := ⟨T.val / 2048, by omega⟩
      let s : Fin 2048 := ⟨T.val % 2048, by omega⟩
      postRow (fun k => x0 (ix3 b s k))
        (fun j => ∑ e, catRow (fun k => x1 (ix3 b s k)) (fun k => x2 (ix3 b s k)) (fun k => x3 (ix3 b s k))
          (fun k => x4 (ix3 b s k)) e * x5 (ix2 e j))
        (fun k => x6 (ix1 k)) (fun k => x7 (ix1 k)) (fun k n => x8 (ix2 k n)) (fun n j => x9 (ix2 n j))
        (fun k => x10 (ix1 k)) j := by
  rw [ref_all, ref_out]
  simp only [ref_feed, ref_norm, ref_resid, ref_mix, ref_cat]
  rfl

end Cert.Proof.Post
-- ==== Proof.PostValue.lean ====
/- The out-projection and feed-forward call against its reference: the array that the call returns is the reference's. -/
module

public import proofs.«01_k».proof.Proof.PostRef
public import proofs.«01_k».proof.Defs

@[expose] public section

set_option maxRecDepth 16384

noncomputable section

namespace Cert.Proof.Post

open Idealize.ShloMosaic Idealize.ShloMosaic.TcCoe Idealize.SL.Sem
open Cert.Kernel2Ideal Cert.Kernel2Ideal.Gen

variable (m : (ℓ : Loc nD τ sig) → Buf (Elt Ideal) ℓ)

theorem idx : ∀ t : Fin cfg0.N, win0_12.index t = ![t.val, 0] ∧ win0_0.index t = ![t.val, 0] ∧ win0_1.index t = ![t.val, 0]
    ∧ win0_2.index t = ![t.val, 0] ∧ win0_3.index t = ![t.val, 0] ∧ win0_4.index t = ![t.val, 0]
    ∧ win0_5.index t = ![0, 0, 0] ∧ win0_6.index t = ![0, 0] ∧ win0_7.index t = ![0, 0] ∧ win0_8.index t = ![0, 0, 0]
    ∧ win0_9.index t = ![0, 0, 0] ∧ win0_10.index t = ![0, 0, 0] ∧ win0_11.index t = ![0, 0] :=
  (by decide +kernel : ∀ t : Fin grid0.N, _)

/-- The batch and the position of row `r` of block `t`. -/
def batch (t : Fin cfg0.N) (r : Fin 1024) : Fin 32 := ⟨(t.val * 1024 + r.val) / 2048, by have : t.val < 64 := t.isLt; omega⟩
def pos (t : Fin cfg0.N) (r : Fin 1024) : Fin 2048 := ⟨(t.val * 1024 + r.val) % 2048, by omega⟩

theorem read0 (c : Dev nD) (t : Fin cfg0.N) (r : Fin 1024) (k : Fin 1024) :
    iblk m c 0 t (ix2 r k) = m ((c : Thread nD τ).loc main_arg0) (ix3 (batch t r) (pos t r) k) := by
  blk_simp [iblk]; entry_read; pointwise
  blk_ext! [batch, pos, idx t]

theorem read1 (c : Dev nD) (t : Fin cfg0.N) (r : Fin 1024) (k : Fin 256) :
    iblk m c 1 t (ix2 r k) = m ((c : Thread nD τ).loc main_arg1) (ix3 (batch t r) (pos t r) k) := by
  blk_simp [iblk]; entry_read; pointwise
  blk_ext! [batch, pos, idx t]

theorem read2 (c : Dev nD) (t : Fin cfg0.N) (r : Fin 1024) (k : Fin 256) :
    iblk m c 2 t (ix2 r k) = m ((c : Thread nD τ).loc main_arg2) (ix3 (batch t r) (pos t r) k) := by
  blk_simp [iblk]; entry_read; pointwise
  blk_ext! [batch, pos, idx t]

theorem read3 (c : Dev nD) (t : Fin cfg0.N) (r : Fin 1024) (k : Fin 256) :
    iblk m c 3 t (ix2 r k) = m ((c : Thread nD τ).loc main_arg3) (ix3 (batch t r) (pos t r) k) := by
  blk_simp [iblk]; entry_read; pointwise
  blk_ext! [batch, pos, idx t]

theorem read4 (c : Dev nD) (t : Fin cfg0.N) (r : Fin 1024) (k : Fin 256) :
    iblk m c 4 t (ix2 r k) = m ((c : Thread nD τ).loc main_arg4) (ix3 (batch t r) (pos t r) k) := by
  blk_simp [iblk]; entry_read; pointwise
  blk_ext! [batch, pos, idx t]

theorem read5 (c : Dev nD) (t : Fin cfg0.N) (i : Fin 4) (k : Fin 256) (j : Fin 1024) :
    iblk m c 5 t (ix3 i k j) = m ((c : Thread nD τ).loc main_arg5) (ix2 ⟨i.val * 256 + k.val, by omega⟩ j) := by
  blk_simp [iblk]; entry_read; pointwise
  blk_ext! [batch, pos, idx t]

theorem read6 (c : Dev nD) (t : Fin cfg0.N) (k : Fin 1024) :
    iblk m c 6 t (ix2 0 k) = m ((c : Thread nD τ).loc main_arg6) (ix1 k) := by
  blk_simp [iblk]; entry_read; pointwise
  blk_ext! [batch, pos, idx t]

theorem read7 (c : Dev nD) (t : Fin cfg0.N) (k : Fin 1024) :
    iblk m c 7 t (ix2 0 k) = m ((c : Thread nD τ).loc main_arg7) (ix1 k) := by
  blk_simp [iblk]; entry_read; pointwise
  blk_ext! [batch, pos, idx t]

theorem read11 (c : Dev nD) (t : Fin cfg0.N) (k : Fin 1024) :
    iblk m c 11 t (ix2 0 k) = m ((c : Thread nD τ).loc main_arg10) (ix1 k) := by
  blk_simp [iblk]; entry_read; pointwise
  blk_ext! [batch, pos, idx t]

theorem read8 (c : Dev nD) (t : Fin cfg0.N) (i : Fin 11) (k : Fin 1024) (n : Fin 256) :
    iblk m c 8 t (ix3 i k n) = m ((c : Thread nD τ).loc main_arg8) (ix2 k ⟨i.val * 256 + n.val, by omega⟩) := by
  blk_simp [iblk]; entry_read; pointwise
  blk_ext! [batch, pos, idx t]

theorem read9 (c : Dev nD) (t : Fin cfg0.N) (i : Fin 11) (k : Fin 1024) (n : Fin 256) :
    iblk m c 9 t (ix3 i k n) = m ((c : Thread nD τ).loc main_arg8) (ix2 k ⟨2816 + (i.val * 256 + n.val), by omega⟩) := by
  blk_simp [iblk]; entry_read; pointwise
  blk_ext! [batch, pos, idx t]

theorem read10 (c : Dev nD) (t : Fin cfg0.N) (i : Fin 11) (n : Fin 256) (j : Fin 1024) :
    iblk m c 10 t (ix3 i n j) = m ((c : Thread nD τ).loc main_arg9) (ix2 ⟨i.val * 256 + n.val, by omega⟩ j) := by
  blk_simp [iblk]; entry_read; pointwise
  blk_ext! [batch, pos, idx t]

/-- Chunks of 256 hidden units, added, are the sum over all of them. -/
theorem feed_chunks (c : Dev nD) (t : Fin cfg0.N) (h : Fin 1024 → EReal) :
    feedBlk h (iblk m c 8 t) (iblk m c 9 t) (iblk m c 10 t) =
      feed h (fun k n => m ((c : Thread nD τ).loc main_arg8) (ix2 k n))
        (fun n j => m ((c : Thread nD τ).loc main_arg9) (ix2 n j)) := by
  funext j
  unfold feedBlk feed
  refine Fin.sum_mul_add_congr fun i n hl => ?_
  simp only [read8 m c t, read9 m c t, read10 m c t]

/-- The mixed row of a block is the joined row times the output projection. -/
theorem mix_block (c : Dev nD) (t : Fin cfg0.N) (r j : Fin 1024) :
    mixOf (iblk m c 1 t) (iblk m c 2 t) (iblk m c 3 t) (iblk m c 4 t) (fun i k j => iblk m c 5 t (ix3 i k j)) r j =
      ∑ e, catRow (fun k => m ((c : Thread nD τ).loc main_arg1) (ix3 (batch t r) (pos t r) k))
        (fun k => m ((c : Thread nD τ).loc main_arg2) (ix3 (batch t r) (pos t r) k))
        (fun k => m ((c : Thread nD τ).loc main_arg3) (ix3 (batch t r) (pos t r) k))
        (fun k => m ((c : Thread nD τ).loc main_arg4) (ix3 (batch t r) (pos t r) k)) e
        * m ((c : Thread nD τ).loc main_arg5) (ix2 e j) := by
  unfold mixOf
  simp only [read1 m c t, read2 m c t, read3 m c t, read4 m c t, read5 m c t]
  exact mix_split _ _ _ _ (fun e => m ((c : Thread nD τ).loc main_arg5) (ix2 e j))

/-- What block `t` computes is the reference's result at its tokens. -/
theorem block_ref (c : Dev nD) (t : Fin cfg0.N) (r j : Fin 1024) :
    outsAt0 m c t (ix2 r j) = Cert.Reference2Ideal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      (ix2 ⟨t.val * 1024 + r.val, by have : t.val < 64 := t.isLt; omega⟩ j) := by
  rw [out_apply, ref_spec]
  unfold blockOut
  have hm := fun j => mix_block m c t r j
  have h0 := fun k => read0 m c t r k
  simp only [funext hm, funext h0, funext fun k => read6 m c t k, funext fun k => read7 m c t k, funext fun k => read11 m c t k, feed_chunks m c t]
  rfl

/-- The array that the call returns, after all 64 blocks. -/
theorem final (c : Dev nD) : (dats m 0 c).arrAt 12 (cfgs 0).N = Cert.Reference2Ideal.Read.val_main_v53 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 12 _ (by decide +kernel) fun t _ y => ?_
  blk_simp
  rw [after0_12]
  rw [show y = ix2 (n0 := 1024) (n1 := 1024) (y 0) (y 1) from by idx_ext]
  refine (block_ref m c t (y 0) (y 1)).trans ?_
  refine congrArg _ ?_
  blk_ext [idx t]

theorem value : Cert.algebraic_Kernel2Ideal_Reference2Ideal := by
  intro m g m' g' _ hargs
  refine ⟨fun c => (dats m 0 c).arrAt 12 (cfgs 0).N, Cert.Kernel2Ideal.Value.run_blocks m g,
    (θ_run _ _ _).mono (fun r h c => ⟨(h c).1.trans ?_, (h c).2⟩) (Cert.Reference2Ideal.Value.run m' g')⟩
  obtain ⟨h0, h1, h2, h3, h4, h5, h6, h7, h8, h9, h10⟩ := hargs c
  rw [Cert.Reference2Ideal.Read.val_main_v53_eq, h0, h1, h2, h3, h4, h5, h6, h7, h8, h9, h10]
  exact (final m c).symm

end Cert.Proof.Post
-- ==== Proof.InprojBlock.lean ====
/- One token block of the norm and in-projection call over the extended reals, and the reference of it, each read at a row
   and a column. -/
module

public import proofs.«01_k».proof.Proof.PostBlock
public import proofs.«01_k».proof.Proof.Gen.Kernel3Ideal.Value
public import proofs.«01_k».proof.Proof.Gen.Reference3Ideal.Read

@[expose] public section

set_option maxRecDepth 16384

noncomputable section

namespace Cert.Proof.Inproj

open Idealize.ShloMosaic Idealize.ShloMosaic.TcCoe Idealize.SL.Sem
open Cert.Proof.Post (normed)

section
open Cert.Kernel3Ideal Cert.Kernel3Ideal.Gen

theorem pay_apply (x : Vec Ideal S1024x1024 .f32) (g : Vec Ideal S1x1024 .f32) (w : Vec Ideal S1024x2560 .bf16)
    (r : Fin 1024) (j : Fin 2560) :
    k0_pay1 (F := Ideal) x g w (ix2 r j) =
      ∑ k, normed (fun k => x (ix2 r k)) (fun k => g (ix2 0 k)) k * w (ix2 k j) := by
  pointwise [k0_pay1, normed]
  done

theorem out_apply (x0 : FVec Ideal S1024x1024 .f32) (x1 : FVec Ideal S1x1024 .f32) (x2 : FVec Ideal S1024x2560 .bf16)
    (r : Fin 1024) (j : Fin 2560) : out0_3 (F := Ideal) x0 x1 x2 (ix2 r j) =
      ∑ k, normed (fun k => x0 (ix2 r k)) (fun k => x1 (ix2 0 k)) k * x2 (ix2 k j) := by
  frame_open
  frame_out
  exact pay_apply _ _ _ r j
end

section
open Cert.Reference3Ideal Cert.Reference3Ideal.Read

variable (x0 : (⟨S32x2048x1024, .f32⟩ : BufTy).Contents (Elt Ideal))
  (x1 : (⟨S1024, .f32⟩ : BufTy).Contents (Elt Ideal)) (x2 : (⟨S1024x2464, .f32⟩ : BufTy).Contents (Elt Ideal))

theorem ref_proj (b : Fin 32) (s : Fin 2048) (e : Fin 2464) :
    val_main_v13 (F := Ideal) x0 x1 x2 (ix3 b s e) =
      ∑ k, normed (fun k => x0 (ix3 b s k)) (fun k => x1 (ix1 k)) k * x2 (ix2 k e) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1, normed]
  done

/-- The columns of the result, taken from the projected columns `p`: the query, key and value columns in the kernel's order, a zero
    block, the rotary key columns, and the same columns with their halves swapped and the first one negated. -/
def columns (p : Fin 2464 → EReal) (e : Fin 2560) : EReal :=
  if _h : e.val < 1792 then p ⟨e.val, by omega⟩
  else if _h : e.val - 1792 < 256 then p ⟨2048 + (e.val - 1792), by omega⟩
  else if _h : e.val - 1792 - 256 < 256 then p ⟨1792 + (e.val - 1792 - 256), by omega⟩
  else if _h : e.val - 1792 - 256 - 256 < 128 then p ⟨2304 + (e.val - 1792 - 256 - 256), by omega⟩
  else if _h : e.val - 1792 - 256 - 256 - 128 < 64 then 0
  else if _h : e.val - 1792 - 256 - 256 - 128 - 64 < 32 then p ⟨2432 + (e.val - 1792 - 256 - 256 - 128 - 64), by omega⟩
  else if _h : e.val - 1792 - 256 - 256 - 128 - 64 - 32 < 16 then
    -p ⟨2432 + (16 + (e.val - 1792 - 256 - 256 - 128 - 64 - 32)), by omega⟩
  else p ⟨2432 + (e.val - 1792 - 256 - 256 - 128 - 64 - 32 - 16), by omega⟩

theorem ref_cat (b : Fin 32) (s : Fin 2048) (e : Fin 2560) :
    val_main_v24 (F := Ideal) x0 x1 x2 (ix3 b s e) =
      columns (fun e => val_main_v13 (F := Ideal) x0 x1 x2 (ix3 b s e)) e := by
  pointwise [columns, val_main_v24, val_main_v23, val_main_v22, val_main_v21, val_main_v20, val_main_v19, val_main_v18, val_main_v17, val_main_v16, val_main_v15, val_main_v14, val_main_cst_2]
  done

theorem ref_all (T : Fin 65536) (j : Fin 2560) :
    val_main_v25 (F := Ideal) x0 x1 x2 (ix2 T j) =
      val_main_v24 (F := Ideal) x0 x1 x2 (ix3 ⟨T.val / 2048, by omega⟩ ⟨T.val % 2048, by omega⟩ j) := by
  pointwise [val_main_v25]
  done
end

end Cert.Proof.Inproj
-- ==== Proof.RealFacts.lean ====
/- Real numbers among the extended reals: sums, the root-mean-square norm, and what the finiteness tests say. -/
module

public import proofs.«01_k».proof.Proof.PostBlock
public import Idealize.ShloMosaic.Lib.ReduceAll
public import Idealize.ShloMosaic.Lib.IdealHost

@[expose] public section

noncomputable section

namespace Cert.Proof

open Idealize.ShloMosaic
open Cert.Proof.Post (normed)

/-- A finite sum of real numbers, taken in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem bits_1024 : Ideal.ofBits .f32 0x44800000#32 = ((1024 : ℝ) : EReal) := by
  simp [Ideal.ofBits, Ideal.ieee, -EReal.coe_mul]; norm_num

theorem bits_neg_one : Ideal.ofBits .f32 0xBF800000#32 = -1 := by
  rw [show (-1 : EReal) = ((-1 : ℝ) : EReal) from by rw [EReal.coe_neg, EReal.coe_one]]
  simp [Ideal.ofBits, Ideal.ieee, -EReal.coe_mul, -EReal.coe_neg]; norm_num

/-- The constant added under the square root is a positive real number. -/
theorem bits_eps : ∃ e : ℝ, 0 < e ∧ Ideal.ofBits .f32 0x358637BD#32 = (e : EReal) := by
  refine ⟨_, ?_, by simp [Ideal.ofBits, Ideal.ieee, -EReal.coe_mul]; rfl⟩
  norm_num

theorem bits_top : Ideal.ofBits .f32 0x7F800000#32 = ⊤ := by
  simp [Ideal.ofBits, Ideal.ieee]

/-- What the finiteness test of one element says. -/
theorem real_of_test (x : EReal) (h : FloatOps.cmpf (F := Ideal) (φ := .f32) .olt (FloatOps.hostAbsf x) (Ideal.ofBits .f32 0x7F800000#32) = 1#1) : ∃ r : ℝ, x = r := by
  rw [bits_top] at h
  induction x with
  | bot => exact absurd h (by decide)
  | top => exact absurd h (by decide)
  | coe r => exact ⟨r, rfl⟩

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

theorem rsqrt_real (a : ℝ) (ha : 0 < a) : Ideal.rsqrt (a : EReal) = (((Real.sqrt a)⁻¹ : ℝ) : EReal) := by
  show (if a < 0 then ⊥ else if a = 0 then ⊤ else (((Real.sqrt a)⁻¹ : ℝ) : EReal)) = _
  rw [if_neg ha.not_gt, if_neg ha.ne']

/-- A normed row is real wherever its gain is, whatever the row: an infinite entry makes the mean square infinite and the
    factor zero. -/
theorem normed_real (y g : Fin 1024 → EReal) (j : Fin 1024) (hg : ∃ r : ℝ, g j = r) : ∃ r : ℝ, normed y g j = r := by
  obtain ⟨gr, hg⟩ := hg
  obtain ⟨e, he, hb⟩ := bits_eps
  have h0 : ∀ k, 0 ≤ y k * y k := fun k => by
    rcases le_total 0 (y k) with h | h
    · exact EReal.mul_nonneg h h
    · rw [← neg_mul_neg]; exact EReal.mul_nonneg (EReal.neg_nonneg.2 h) (EReal.neg_nonneg.2 h)
  have hS : 0 ≤ ∑ k, y k * y k := Finset.sum_nonneg fun k _ => h0 k
  have hj : y j * y j ≤ ∑ k, y k * y k := Finset.single_le_sum (fun k _ => h0 k) (Finset.mem_univ j)
  unfold normed
  rw [hb, hg, bits_1024]
  generalize ∑ k, y k * y k = S at hS hj ⊢
  induction S with
  | bot => exact absurd hS (by simp)
  | top =>
    refine ⟨0, ?_⟩
    have : Ideal.div ⊤ ((1024 : ℝ) : EReal) = ⊤ := by
      unfold Ideal.div
      rw [if_neg (by norm_num), ← EReal.coe_inv, EReal.top_mul_coe_of_pos (by norm_num)]
    rw [this, EReal.top_add_coe]
    show y j * (0 : EReal) * (gr : EReal) = _
    simp
  | coe s =>
    have hs : 0 ≤ s := by exact_mod_cast hS
    have hy : ∃ r : ℝ, y j = r := by
      generalize y j = z at hj
      induction z with
      | bot => exact absurd hj (by simp)
      | top => exact absurd hj (by simp)
      | coe r => exact ⟨r, rfl⟩
    obtain ⟨yr, hy⟩ := hy
    rw [hy, div_real _ _ (by norm_num), ← EReal.coe_add, rsqrt_real _ (by positivity), ← EReal.coe_mul, ← EReal.coe_mul]
    exact ⟨_, rfl⟩

end Cert.Proof
-- ==== Proof.WeightFacts.lean ====
/- The shape facts of the finiteness test on the norm's gain and the projection's weights, and what the test says. -/
module

public import proofs.«01_k».proof.Proof.RealFacts
public import proofs.«01_k».proof.Pre_finite_weights

@[expose] public section

set_option maxRecDepth 16384

noncomputable section

namespace Cert.Proof.Weights

open Idealize.ShloMosaic Cert.Pre_finite_weights

instance facts : Facts where
  bcast_S_S1024 := by decide
  reducesTo_S1024_S_d0 := by decide
  h_S_ := by decide
  bcast_S_S1024x2464 := by decide
  reducesTo_S1024x2464_S_d0_1 := by decide

theorem of_pre (x0 : FVec Ideal S32x2048x1024 .f32) (x1 : FVec Ideal S1024 .f32) (x2 : FVec Ideal S1024x2464 .f32)
    (h : fn (F := Ideal) x0 x1 x2 = fun _ => 1#1) :
    (∀ k, ∃ r : ℝ, x1 (ix1 k) = r) ∧ ∀ k e, ∃ r : ℝ, x2 (ix2 k e) = r := by
  have h0 := congrFun h (fun a => a.elim0)
  haveI : Subsingleton S_.Idx := ⟨fun a b => funext fun i => i.elim0⟩
  obtain ⟨h1, h2⟩ := IntOp.andi_eq_one.1 h0
  refine ⟨fun k => real_of_test _ (Host.reduce_andi_all _ _ _ _ _ h1 (ix1 k)), fun k e => real_of_test _ (Host.reduce_andi_all _ _ _ _ _ h2 (ix2 k e))⟩

end Cert.Proof.Weights
-- ==== Proof.InprojValue.lean ====
/- The norm and in-projection call against its reference: the array that the call returns is the reference's. -/
module

public import proofs.«01_k».proof.Proof.InprojBlock
public import proofs.«01_k».proof.Proof.WeightFacts
public import proofs.«01_k».proof.Defs
public import Idealize.ShloMosaic.Lib.StableHlo.RunRead

@[expose] public section

set_option maxRecDepth 16384

noncomputable section

namespace Cert.Proof.Inproj

open Idealize.ShloMosaic Idealize.ShloMosaic.TcCoe Idealize.SL.Sem
open Cert.Kernel3Ideal Cert.Kernel3Ideal.Gen

variable (m : (ℓ : Loc nD τ sig) → Buf (Elt Ideal) ℓ)

/-- The gather of whole columns, read at a row and a column. -/
theorem gather_cols (x : FVec Ideal S1024x32 .f32) (idx : IVec S32x1 32) (k : Fin 1024) (j : Fin 32) :
    Host.gather gather_S1024x32_S32x1_S1024x32_0_1_n_n_1_1_10241 x idx (ix2 k j) =
      x (ix2 k ⟨min (idx (ix2 j 0)).toInt.toNat 31, by omega⟩) := by
  unfold Host.gather
  congr 1
  funext a
  refine Fin.ext ?_
  show GatherDims.start gather_S1024x32_S32x1_S1024x32_0_1_n_n_1_1_10241 (ix2 k j) idx a
    + GatherDims.batchCoord gather_S1024x32_S32x1_S1024x32_0_1_n_n_1_1_10241 (ix2 k j) a
    + GatherDims.offCoord gather_S1024x32_S32x1_S1024x32_0_1_n_n_1_1_10241 (ix2 k j) a = _
  have h01 : a = 0 ∨ a = 1 := by
    match a with
    | ⟨0, _⟩ => exact Or.inl rfl
    | ⟨1, _⟩ => exact Or.inr rfl
  rw [GatherDims.batchCoord_eq_zero _ _ _ List.not_mem_nil]
  rcases h01 with rfl | rfl
  · unfold GatherDims.start
    rw [dif_neg (by decide)]
    unfold GatherDims.offCoord
    rw [dif_pos (by decide)]
    show 0 + 0 + _ = k.val
    simp only [Nat.zero_add]
    rfl
  · rw [GatherDims.offCoord_eq_zero _ _ _ (fun h => ((GatherDims.mem_sKept _ _).mp h).1 (List.mem_singleton.mpr rfl))]
    unfold GatherDims.start
    rw [dif_pos (show (1 : Fin 2) ∈ gather_S1024x32_S32x1_S1024x32_0_1_n_n_1_1_10241.startIndexMap from List.mem_singleton.mpr rfl)]
    have hsi : GatherDims.siIdx gather_S1024x32_S32x1_S1024x32_0_1_n_n_1_1_10241 (ix2 k j)
        ⟨List.idxOf (1 : Fin 2) [(1 : Fin 2)], List.idxOf_lt_length_iff.2 (List.mem_singleton.mpr rfl)⟩ = ix2 j 0 := by
      funext b; refine Fin.ext ?_
      match b with
      | ⟨0, _⟩ => rfl
      | ⟨1, _⟩ => rfl
    exact congrArg (fun i => min (idx i).toInt.toNat 31) hsi

theorem rot_source : ∀ i : Fin 32, (lit0 (S32.rowMajor (ix1 i))).toInt.toNat = if i.val < 16 then 16 + i.val else i.val - 16 := by
  decide +kernel

theorem rot_sign : ∀ i : Fin 32, lit1 (S32.rowMajor (ix1 i)) = if i.val < 16 then 0xBF800000#32 else 0x3F800000#32 := by
  decide +kernel

/-- The swapped and signed columns. -/
theorem rot_column (p : Fin 2464 → EReal) (i : Fin 32) :
    p ⟨2432 + min (lit0 (S32.rowMajor (ix1 i))).toInt.toNat 31, by omega⟩ * Ideal.ofBits .f32 (lit1 (S32.rowMajor (ix1 i))) =
      if h : i.val < 16 then -p ⟨2432 + (16 + i.val), by omega⟩ else p ⟨2432 + (i.val - 16), by omega⟩ := by
  rw [rot_sign]
  by_cases h : i.val < 16
  · rw [if_pos h, dif_pos h, bits_neg_one, mul_neg_one]
    refine congrArg (fun e => -p e) (Fin.ext ?_)
    show 2432 + min (lit0 (S32.rowMajor (ix1 i))).toInt.toNat 31 = 2432 + (16 + i.val)
    rw [rot_source, if_pos h]; omega
  · rw [if_neg h, dif_neg h, Ideal.ofBits_one_f32, mul_one]
    refine congrArg p (Fin.ext ?_)
    show 2432 + min (lit0 (S32.rowMajor (ix1 i))).toInt.toNat 31 = 2432 + (i.val - 16)
    rw [rot_source, if_neg h]; omega

theorem idx : ∀ t : Fin cfg0.N, win0_0.index t = ![t.val, 0] ∧ win0_1.index t = ![0, 0]
    ∧ win0_2.index t = ![0, 0] ∧ win0_3.index t = ![t.val, 0] :=
  (by decide +kernel : ∀ t : Fin grid0.N, _)

/-- The batch and the position of row `r` of block `t`. -/
def batch (t : Fin cfg0.N) (r : Fin 1024) : Fin 32 := ⟨(t.val * 1024 + r.val) / 2048, by have : t.val < 64 := t.isLt; omega⟩
def pos (t : Fin cfg0.N) (r : Fin 1024) : Fin 2048 := ⟨(t.val * 1024 + r.val) % 2048, by omega⟩

theorem read0 (c : Dev nD) (t : Fin cfg0.N) (r : Fin 1024) (k : Fin 1024) :
    iblk m c 0 t (ix2 r k) = m ((c : Thread nD τ).loc main_arg0) (ix3 (batch t r) (pos t r) k) := by
  blk_simp [iblk]; after_reads_simp; pointwise
  blk_ext! [batch, pos, idx t]

theorem read1 (c : Dev nD) (t : Fin cfg0.N) (k : Fin 1024) :
    iblk m c 1 t (ix2 0 k) = m ((c : Thread nD τ).loc main_arg1) (ix1 k) := by
  blk_simp [iblk]; after_reads_simp; pointwise
  blk_ext! [batch, pos, idx t]

set_option maxHeartbeats 2000000 in
theorem read2 (c : Dev nD) (t : Fin cfg0.N) (k : Fin 1024) (j : Fin 2560) :
    (iblk m c 2 t (ix2 k j) : EReal) = Inproj.columns (fun e => m ((c : Thread nD τ).loc main_arg2) (ix2 k e)) j := by
  blk_simp [iblk]; after_reads_simp
  rw [show ((View.whole main_v17).slice (win0_2.rect t)).emb (ix2 k j) = ix2 k j from by blk_ext [idx t]]
  pointwise
  after_reads_simp; pointwise [gather_cols]
  unfold columns
  have hr := rot_column (fun e => m ((c : Thread nD τ).loc main_arg2) (ix2 k e))
  repeat' (refine dite_congr rfl (fun _ => ?_) (fun _ => ?_))
  all_goals first | rfl | exact hr ⟨_, _⟩

/-- A row times rearranged columns is the rearrangement of the row times the columns, where all terms are real: the sign of a
    column may then be taken before the sum or after it. -/
theorem columns_sum (h : Fin 1024 → EReal) (w : Fin 1024 → Fin 2464 → EReal) (hh : ∀ k, ∃ r : ℝ, h k = r)
    (hw : ∀ k e, ∃ r : ℝ, w k e = r) (j : Fin 2560) :
    ∑ k, h k * columns (w k) j = columns (fun e => ∑ k, h k * w k e) j := by
  choose h' hh using hh
  choose w' hw using hw
  unfold columns
  by_cases h1 : j.val < 1792
  · simp only [dif_pos h1]
  by_cases h2 : j.val - 1792 < 256
  · simp only [dif_neg h1, dif_pos h2]
  by_cases h3 : j.val - 1792 - 256 < 256
  · simp only [dif_neg h1, dif_neg h2, dif_pos h3]
  by_cases h4 : j.val - 1792 - 256 - 256 < 128
  · simp only [dif_neg h1, dif_neg h2, dif_neg h3, dif_pos h4]
  by_cases h5 : j.val - 1792 - 256 - 256 - 128 < 64
  · simp only [dif_neg h1, dif_neg h2, dif_neg h3, dif_neg h4, dif_pos h5, mul_zero, Finset.sum_const_zero]
  by_cases h6 : j.val - 1792 - 256 - 256 - 128 - 64 < 32
  · simp only [dif_neg h1, dif_neg h2, dif_neg h3, dif_neg h4, dif_neg h5, dif_pos h6]
  by_cases h7 : j.val - 1792 - 256 - 256 - 128 - 64 - 32 < 16
  · simp only [dif_neg h1, dif_neg h2, dif_neg h3, dif_neg h4, dif_neg h5, dif_neg h6, dif_pos h7, hh, hw,
      ← EReal.coe_neg, ← EReal.coe_mul, coe_sum, mul_neg, Finset.sum_neg_distrib]
  · simp only [dif_neg h1, dif_neg h2, dif_neg h3, dif_neg h4, dif_neg h5, dif_neg h6, dif_neg h7]

/-- What block `t` computes is the reference's result at its tokens. -/
theorem block_ref (c : Dev nD) (hg : ∀ k, ∃ r : ℝ, m ((c : Thread nD τ).loc main_arg1) (ix1 k) = (r : EReal))
    (hw : ∀ k e, ∃ r : ℝ, m ((c : Thread nD τ).loc main_arg2) (ix2 k e) = (r : EReal)) (t : Fin cfg0.N) (r : Fin 1024) (j : Fin 2560) :
    out0_3 (F := Ideal) (iblk m c 0 t) (iblk m c 1 t) (iblk m c 2 t) (ix2 r j) =
      Cert.Reference3Ideal.Read.val_main_v25 (F := Ideal) (m ((c : Thread nD τ).loc main_arg0)) (m ((c : Thread nD τ).loc main_arg1)) (m ((c : Thread nD τ).loc main_arg2))
        (ix2 ⟨t.val * 1024 + r.val, by have : t.val < 64 := t.isLt; omega⟩ j) := by
  rw [out_apply, ref_all, ref_cat]
  simp only [ref_proj]
  rw [← columns_sum _ _ (fun k => normed_real _ _ _ (hg k)) hw]
  have h0 := fun k => read0 m c t r k
  have h1 := fun k => read1 m c t k
  simp only [funext h0, funext h1, read2 m c t]
  rfl

/-- The array that the call returns, after all 64 blocks. -/
theorem final (c : Dev nD) (hg : ∀ k, ∃ r : ℝ, m ((c : Thread nD τ).loc main_arg1) (ix1 k) = (r : EReal))
    (hw : ∀ k e, ∃ r : ℝ, m ((c : Thread nD τ).loc main_arg2) (ix2 k e) = (r : EReal)) : (dats m 0 c).arrAt 3 (cfgs 0).N =
      Cert.Reference3Ideal.Read.val_main_v25 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  rw [show y = ix2 (n0 := 1024) (n1 := 2560) (y 0) (y 1) from by idx_ext]
  refine (block_ref m c hg hw t (y 0) (y 1)).trans ?_
  refine congrArg _ ?_
  blk_ext [idx t]

theorem value : Cert.algebraic_Kernel3Ideal_Reference3Ideal := by
  intro m g m' g' hpre hargs
  refine ⟨fun c => (dats m 0 c).arrAt 3 (cfgs 0).N, Cert.Kernel3Ideal.Value.run_blocks m g,
    (θ_run _ _ _).mono (fun r h c => ⟨(h c).1.trans ?_, (h c).2⟩) (Cert.Reference3Ideal.Value.run m' g')⟩
  obtain ⟨h0, h1, h2⟩ := hargs c
  obtain ⟨hg, hw⟩ := Weights.of_pre _ _ _ (hpre c)
  rw [Cert.Reference3Ideal.Read.val_main_v25_eq, h0, h1, h2]
  exact (final m c hg hw).symm

end Cert.Proof.Inproj
-- ==== Proof.GqaTrip.lean ====
/- One trip of the attention call's loop over the query tiles, and the whole loop: what the carried column maxima, the score buffer, the accumulator and the output hold, in terms of the prepared queries, keys and values. -/
module

public import proofs.«01_k».proof.Proof.Gen.KernelIdeal.Frame
public import proofs.«01_k».proof.Proof.Gen.KernelIdeal.Loops
public import Idealize.ShloMosaic.Lib.Pointwise
public import Idealize.ShloMosaic.Lib.Pipeline.ValueKit
public import Idealize.ShloMosaic.Lib.WritesUnit

@[expose] public section

set_option maxRecDepth 16384

noncomputable section

namespace Cert.Proof.Gqa

open Idealize.ShloMosaic Idealize.ShloMosaic.TcCoe
open Cert.KernelIdeal Cert.KernelIdeal.Gen

variable {F : FTy → Type} [FloatOps F] [Named F]

/-! ## The arithmetic of one head on one query tile -/

/-- The scores of one chunk of 256 keys against one tile of 256 queries. -/
def scoreBlk (kk : FVec F S256x128 .bf16) (q : FVec F S128x256 .bf16) : FVec F S256x256 .f32 :=
  matmul dot_S256x128_S128x256_S256x256_1_0_0_1_n_n none kk q (constant S256x256 .f32 0x00000000#32)

/-- The maxima of one chunk's scores over the keys of equal row modulo eight. -/
def max8 (s : FVec F S256x256 .f32) : FVec F S8x256 .f32 :=
  multiReduction .maximumf [0] S8x256 (shapeCast S32x8x256 s shapeCasts_S256x256_S32x8x256) 0xFF800000#32
    reduces_S32x8x256_S8x256 (.inl rfl) rfl

/-- The column maxima over all eight chunks. -/
def colMax (s : Fin 8 → FVec F S256x256 .f32) : FVec F S1x256 .f32 :=
  shapeCast S1x256 (multiReduction .maximumf [0] S256
    (maximumf (maximumf (maximumf (maximumf (maximumf (maximumf (maximumf (max8 (s 0)) (max8 (s 1))) (max8 (s 2))) (max8 (s 3)))
      (max8 (s 4))) (max8 (s 5))) (max8 (s 6))) (max8 (s 7)))
    0xFF800000#32 reduces_S8x256_S256 (.inl rfl) rfl) shapeCasts_S256_S1x256

/-- The values times the exponentials of one chunk's scores less the column value `m`. -/
def pv (s : FVec F S256x256 .f32) (m : FVec F S1x256 .f32) (v : FVec F S80x256 .bf16) : FVec F S80x256 .f32 :=
  matmul dot_S80x256_S256x256_S80x256_1_0_0_1_n_n none v
    (truncf .bf16 (exp2 (subf s (broadcastTo S256x256 m broadcasts_S1x256_S256x256))) bitsLt_bf16_f32)
    (constant S80x256 .f32 0x00000000#32)

/-- The sum of that over the eight chunks. -/
def headAcc (s : Fin 8 → FVec F S256x256 .f32) (m : FVec F S1x256 .f32) (v : Fin 8 → FVec F S80x256 .bf16) : FVec F S80x256 .f32 :=
  addf (addf (addf (addf (addf (addf (addf (pv (s 0) m (v 0)) (pv (s 1) m (v 1))) (pv (s 2) m (v 2))) (pv (s 3) m (v 3)))
    (pv (s 4) m (v 4))) (pv (s 5) m (v 5))) (pv (s 6) m (v 6))) (pv (s 7) m (v 7))

/-- One head's rows over the row of the denominators. -/
def quot (a : FVec F S80x256 .f32) : FVec F S64x256 .f32 :=
  divf (extractStridedSlice S64x256 ![0, 0] a slices_S80x256_o0_0_S64x256)
    (broadcastTo S64x256 (extractStridedSlice S1x256 ![64, 0] a slices_S80x256_o64_0_S1x256) broadcasts_S1x256_S64x256)

/-- The output tile of the four heads. -/
def outTile (a : Fin 4 → FVec F S80x256 .f32) : FVec F S1x256x256 .bf16 :=
  shapeCast S1x256x256 (truncf .bf16 (transpose S256x256 [1, 0]
    (concatenate S256x256 0 [⟨S64x256, quot (a 0)⟩, ⟨S64x256, quot (a 1)⟩, ⟨S64x256, quot (a 2)⟩, ⟨S64x256, quot (a 3)⟩]
      concatenates_S64x256_S64x256_S64x256_S64x256_S256x256_d0) transposes_S256x256_p1_0_S256x256) bitsLt_bf16_f32)
    shapeCasts_S256x256_S1x256x256

/-! ## The prepared arrays cut into tiles and chunks -/

/-- Head `h` of query tile `t`. -/
def qTile (A : S8x512x256.Idx → Elt F .bf16) (t : Fin 8) (h : Fin 4) : FVec F S128x256 .bf16 :=
  fun j => A (ix3 t (⟨128 * h.val + (j 0).val, by have : (j 0).val < 128 := (j 0).isLt; omega⟩ : Fin 512) (j 1 : Fin 256))

/-- Chunk `c` of the keys. -/
def kChunk (A : S2048x128.Idx → Elt F .bf16) (c : Fin 8) : FVec F S256x128 .bf16 :=
  fun j => A (ix2 (⟨256 * c.val + (j 0).val, by have : (j 0).val < 256 := (j 0).isLt; omega⟩ : Fin 2048) (j 1 : Fin 128))

/-- Chunk `c` of the values of key head `g`. -/
def vChunk (A : S2x8x80x256.Idx → Elt F .bf16) (g : Fin 2) (c : Fin 8) : FVec F S80x256 .bf16 :=
  fun j => A (ix4 g c (j 0 : Fin 80) (j 1 : Fin 256))

/-- The scores of tile `t`, head `h`, chunk `c`. -/
def S (Q : S8x512x256.Idx → Elt F .bf16) (K : S2048x128.Idx → Elt F .bf16) (t : Fin 8) (h : Fin 4) (c : Fin 8) :
    FVec F S256x256 .f32 := scoreBlk (kChunk K c) (qTile Q t h)

/-- The accumulated values of tile `t`, head `h`. -/
def acc (Q : S8x512x256.Idx → Elt F .bf16) (K : S2048x128.Idx → Elt F .bf16) (W : S2x8x80x256.Idx → Elt F .bf16)
    (t : Fin 8) (h : Fin 4) : FVec F S80x256 .f32 :=
  headAcc (S Q K t h) (colMax (S Q K t h)) (vChunk W ⟨h.val / 2, by omega⟩)

/-- The output tile `t`. -/
def out (Q : S8x512x256.Idx → Elt F .bf16) (K : S2048x128.Idx → Elt F .bf16) (W : S2x8x80x256.Idx → Elt F .bf16)
    (t : Fin 8) : FVec F S1x256x256 .bf16 := outTile (acc Q K W t)

/-! ## Loads -/

theorem q_load (a : Memref sig .tc .vmem S8x512x256 .bf16) (X : BufTy.Contents (Elt F) a.view.ty) (o : Fin 3 → ℕ)
    (inb : ∀ x, o x + S1x128x256.size x ≤ S8x512x256.size x) (t : Fin 8) (h : Fin 4) (ho : o = ![t.val, 128 * h.val, 0]) :
    shapeCast S128x256 (View.readAt (Elt F) a.view (Rect.unit (s := S8x512x256) o S1x128x256.size inb).toLoadRect X)
      shapeCasts_S1x128x256_S128x256 = qTile (a.view.read (Elt F) X) t h := by
  subst ho
  funext j
  refine (shapeCast_apply _ _ j (ix3 (0 : Fin 1) (j 0 : Fin 128) (j 1 : Fin 256)) (by
    rw [Shape.rowMajor_val_three, Shape.rowMajor_val_two]
    show (0 * 128 + (j 0).val) * 256 + (j 1).val = (j 0).val * 256 + (j 1).val
    rw [Nat.zero_mul, Nat.zero_add])).trans ?_
  refine congrArg (a.view.read (Elt F) X) ?_
  funext x; apply Fin.ext; fin_cases x
  · show t.val + 1 * 0 = t.val; rw [Nat.mul_zero, Nat.add_zero]
  · show 128 * h.val + 1 * (j 0).val = _; rw [Nat.one_mul]; rfl
  · show 0 + 1 * (j 1).val = _; rw [Nat.one_mul, Nat.zero_add]; rfl

theorem k_load (a : Memref sig .tc .vmem S2048x128 .bf16) (X : BufTy.Contents (Elt F) a.view.ty) (o : Fin 2 → ℕ)
    (inb : ∀ x, o x + S256x128.size x ≤ S2048x128.size x) (c : Fin 8) (ho : o = ![256 * c.val, 0]) :
    View.readAt (Elt F) a.view (Rect.unit (s := S2048x128) o S256x128.size inb).toLoadRect X
      = kChunk (a.view.read (Elt F) X) c := by
  subst ho
  funext j
  refine congrArg (a.view.read (Elt F) X) ?_
  funext x; apply Fin.ext; fin_cases x
  · show 256 * c.val + 1 * (j 0).val = _; rw [Nat.one_mul]; rfl
  · show 0 + 1 * (j 1).val = _; rw [Nat.one_mul, Nat.zero_add]; rfl

theorem v_load (a : Memref sig .tc .vmem S2x8x80x256 .bf16) (X : BufTy.Contents (Elt F) a.view.ty) (o : Fin 4 → ℕ)
    (inb : ∀ x, o x + S1x1x80x256.size x ≤ S2x8x80x256.size x) (g : Fin 2) (c : Fin 8) (ho : o = ![g.val, c.val, 0, 0]) :
    shapeCast S80x256 (View.readAt (Elt F) a.view (Rect.unit (s := S2x8x80x256) o S1x1x80x256.size inb).toLoadRect X)
      shapeCasts_S1x1x80x256_S80x256 = vChunk (a.view.read (Elt F) X) g c := by
  subst ho
  funext j
  refine (shapeCast_apply _ _ j (ix4 (0 : Fin 1) (0 : Fin 1) (j 0 : Fin 80) (j 1 : Fin 256)) (by
    rw [Shape.rowMajor_val_four, Shape.rowMajor_val_two]
    show ((0 * 1 + 0) * 80 + (j 0).val) * 256 + (j 1).val = (j 0).val * 256 + (j 1).val
    rw [Nat.zero_mul, Nat.zero_add])).trans ?_
  refine congrArg (a.view.read (Elt F) X) ?_
  funext x; apply Fin.ext; fin_cases x
  · show g.val + 1 * 0 = g.val; rw [Nat.mul_zero, Nat.add_zero]
  · show c.val + 1 * 0 = c.val; rw [Nat.mul_zero, Nat.add_zero]
  · show 0 + 1 * (j 0).val = _; rw [Nat.one_mul, Nat.zero_add]; rfl
  · show 0 + 1 * (j 1).val = _; rw [Nat.one_mul, Nat.zero_add]; rfl

/-! ## The score buffer and the accumulator -/

theorem slot_inb {s o : ℕ} (hs : s < 2) (ho : o + 256 ≤ 2048) :
    ∀ x, (![s, o, 0] : Fin 3 → ℕ) x + S1x256x256.size x ≤ S2x2048x256.size x := by
  intro x; fin_cases x
  · show s + 1 ≤ 2; omega
  · exact ho
  · show 0 + 256 ≤ 256; omega

/-- The eight stores of one slot of the score buffer, last first. -/
def slotPieces (s : ℕ) (hs : s < 2) (w : Fin 8 → FVec F S256x256 .f32) : List (View.Piece (Elt F) S2x2048x256 .f32) :=
  [⟨Rect.unit (s := S2x2048x256) ![s, 1792, 0] S1x256x256.size (slot_inb hs (by decide)), shapeCast S1x256x256 (w 7) shapeCasts_S256x256_S1x256x256⟩,
   ⟨Rect.unit (s := S2x2048x256) ![s, 1536, 0] S1x256x256.size (slot_inb hs (by decide)), shapeCast S1x256x256 (w 6) shapeCasts_S256x256_S1x256x256⟩,
   ⟨Rect.unit (s := S2x2048x256) ![s, 1280, 0] S1x256x256.size (slot_inb hs (by decide)), shapeCast S1x256x256 (w 5) shapeCasts_S256x256_S1x256x256⟩,
   ⟨Rect.unit (s := S2x2048x256) ![s, 1024, 0] S1x256x256.size (slot_inb hs (by decide)), shapeCast S1x256x256 (w 4) shapeCasts_S256x256_S1x256x256⟩,
   ⟨Rect.unit (s := S2x2048x256) ![s, 768, 0] S1x256x256.size (slot_inb hs (by decide)), shapeCast S1x256x256 (w 3) shapeCasts_S256x256_S1x256x256⟩,
   ⟨Rect.unit (s := S2x2048x256) ![s, 512, 0] S1x256x256.size (slot_inb hs (by decide)), shapeCast S1x256x256 (w 2) shapeCasts_S256x256_S1x256x256⟩,
   ⟨Rect.unit (s := S2x2048x256) ![s, 256, 0] S1x256x256.size (slot_inb hs (by decide)), shapeCast S1x256x256 (w 1) shapeCasts_S256x256_S1x256x256⟩,
   ⟨Rect.unit (s := S2x2048x256) ![s, 0, 0] S1x256x256.size (slot_inb hs (by decide)), shapeCast S1x256x256 (w 0) shapeCasts_S256x256_S1x256x256⟩]

theorem slot_step (a : Memref sig .tc .vmem S2x2048x256 .f32) (f : BufTy.Contents (Elt F) a.view.ty) (s : Fin 2) (o : ℕ)
    (inb : ∀ x, (![s.val, o, 0] : Fin 3 → ℕ) x + S1x256x256.size x ≤ S2x2048x256.size x) (w : FVec F S1x256x256 .f32)
    (L : List (View.Piece (Elt F) S2x2048x256 .f32)) (c₀ c : Fin 8) (r d : Fin 256) (ho : o = 256 * c₀.val) :
    a.view.read (Elt F) (a.view.writes (Elt F) f (⟨Rect.unit (s := S2x2048x256) ![s.val, o, 0] S1x256x256.size inb, w⟩ :: L))
      (ix3 s (⟨256 * c.val + r.val, by omega⟩ : Fin 2048) d)
      = if c = c₀ then w (ix3 (0 : Fin 1) r d)
        else a.view.read (Elt F) (a.view.writes (Elt F) f L) (ix3 s (⟨256 * c.val + r.val, by omega⟩ : Fin 2048) d) := by
  subst ho
  split_ifs with h
  · subst h
    have hy : (Rect.unit (s := S2x2048x256) ![s.val, 256 * c.val, 0] S1x256x256.size inb).emb (ix3 (0 : Fin 1) r d)
        = ix3 s (⟨256 * c.val + r.val, by omega⟩ : Fin 2048) d := by
      funext x; apply Fin.ext; fin_cases x
      · show s.val + 1 * 0 = s.val; rw [Nat.mul_zero, Nat.add_zero]
      · show 256 * c.val + 1 * r.val = 256 * c.val + r.val; rw [Nat.one_mul]
      · show 0 + 1 * d.val = d.val; rw [Nat.one_mul, Nat.zero_add]
    rw [← hy]
    exact View.read_writes_cons_emb _ _ _ _ _ _
  · refine View.read_writes_cons_unit_of_not_mem (off' := (![s.val, 256 * c₀.val, 0] : Fin 3 → ℕ)) _ _ _ _ _ _ rfl (1 : Fin 3) ?_
    show 256 * c.val + r.val < 256 * c₀.val ∨ 256 * c₀.val + 256 ≤ 256 * c.val + r.val
    have : c.val ≠ c₀.val := fun e => h (Fin.ext e)
    omega

/-- The slot's reading after its eight stores. -/
theorem read_slot (a : Memref sig .tc .vmem S2x2048x256 .f32) (f : BufTy.Contents (Elt F) a.view.ty) (s : Fin 2) (hs : s.val < 2)
    (w : Fin 8 → FVec F S256x256 .f32) (c : Fin 8) (r d : Fin 256) :
    a.view.read (Elt F) (a.view.writes (Elt F) f (slotPieces s.val hs w)) (ix3 s (⟨256 * c.val + r.val, by omega⟩ : Fin 2048) d)
      = w c (ix2 r d) := by
  have e : ∀ c : Fin 8, shapeCast S1x256x256 (w c) shapeCasts_S256x256_S1x256x256 (ix3 (0 : Fin 1) r d) = w c (ix2 r d) := by
    intro c; pointwise
  unfold slotPieces
  rw [slot_step _ _ _ 1792 _ _ _ 7 _ _ _ rfl, slot_step _ _ _ 1536 _ _ _ 6 _ _ _ rfl, slot_step _ _ _ 1280 _ _ _ 5 _ _ _ rfl,
    slot_step _ _ _ 1024 _ _ _ 4 _ _ _ rfl, slot_step _ _ _ 768 _ _ _ 3 _ _ _ rfl, slot_step _ _ _ 512 _ _ _ 2 _ _ _ rfl,
    slot_step _ _ _ 256 _ _ _ 1 _ _ _ rfl, slot_step _ _ _ 0 _ _ _ 0 _ _ _ rfl]
  simp only [e]
  by_cases h7 : c = 7; · rw [if_pos h7, h7]
  rw [if_neg h7]
  by_cases h6 : c = 6; · rw [if_pos h6, h6]
  rw [if_neg h6]
  by_cases h5 : c = 5; · rw [if_pos h5, h5]
  rw [if_neg h5]
  by_cases h4 : c = 4; · rw [if_pos h4, h4]
  rw [if_neg h4]
  by_cases h3 : c = 3; · rw [if_pos h3, h3]
  rw [if_neg h3]
  by_cases h2 : c = 2; · rw [if_pos h2, h2]
  rw [if_neg h2]
  by_cases h1 : c = 1; · rw [if_pos h1, h1]
  rw [if_neg h1, if_pos (by omega), show c = 0 by omega]

/-- The other slot is untouched by them. -/
theorem read_slot_other (a : Memref sig .tc .vmem S2x2048x256 .f32) (f : BufTy.Contents (Elt F) a.view.ty) (s : ℕ) (hs : s < 2)
    (w : Fin 8 → FVec F S256x256 .f32) (s' : Fin 2) (hne : s'.val ≠ s) (r : Fin 2048) (d : Fin 256) :
    a.view.read (Elt F) (a.view.writes (Elt F) f (slotPieces s hs w)) (ix3 s' r d) = a.view.read (Elt F) f (ix3 s' r d) := by
  have h : (ix3 s' r d : S2x2048x256.Idx) 0 < s ∨ s + 1 ≤ ((ix3 s' r d : S2x2048x256.Idx) 0).val := by
    show s'.val < s ∨ s + 1 ≤ s'.val; omega
  unfold slotPieces
  iterate 8 rw [View.read_writes_cons_unit_of_not_mem _ _ _ _ _ _ rfl 0 h]
  rfl

/-- Chunk `c` of slot `s` of the score buffer. -/
def slotOf (A : S2x2048x256.Idx → Elt F .f32) (s : Fin 2) (c : Fin 8) : FVec F S256x256 .f32 :=
  fun j => A (ix3 s (⟨256 * c.val + (j 0).val, by have : (j 0).val < 256 := (j 0).isLt; omega⟩ : Fin 2048) (j 1 : Fin 256))

/-- Head `h` of the accumulator. -/
def accOf (A : S4x80x256.Idx → Elt F .f32) (h : Fin 4) : FVec F S80x256 .f32 :=
  fun j => A (ix3 h (j 0 : Fin 80) (j 1 : Fin 256))

theorem slot_load (a : Memref sig .tc .vmem S2x2048x256 .f32) (X : BufTy.Contents (Elt F) a.view.ty) (o : Fin 3 → ℕ)
    (inb : ∀ x, o x + S1x256x256.size x ≤ S2x2048x256.size x) (s : Fin 2) (c : Fin 8) (ho : o = ![s.val, 256 * c.val, 0]) :
    shapeCast S256x256 (View.readAt (Elt F) a.view (Rect.unit (s := S2x2048x256) o S1x256x256.size inb).toLoadRect X)
      shapeCasts_S1x256x256_S256x256 = slotOf (a.view.read (Elt F) X) s c := by
  subst ho
  funext j
  refine (shapeCast_apply _ _ j (ix3 (0 : Fin 1) (j 0 : Fin 256) (j 1 : Fin 256)) (by
    rw [Shape.rowMajor_val_three, Shape.rowMajor_val_two]
    show (0 * 256 + (j 0).val) * 256 + (j 1).val = (j 0).val * 256 + (j 1).val
    rw [Nat.zero_mul, Nat.zero_add])).trans ?_
  refine congrArg (a.view.read (Elt F) X) ?_
  funext x; apply Fin.ext; fin_cases x
  · show s.val + 1 * 0 = s.val; rw [Nat.mul_zero, Nat.add_zero]
  · show 256 * c.val + 1 * (j 0).val = _; rw [Nat.one_mul]; rfl
  · show 0 + 1 * (j 1).val = _; rw [Nat.one_mul, Nat.zero_add]; rfl

theorem acc_load (a : Memref sig .tc .vmem S4x80x256 .f32) (X : BufTy.Contents (Elt F) a.view.ty) (o : Fin 3 → ℕ)
    (inb : ∀ x, o x + S1x80x256.size x ≤ S4x80x256.size x) (h : Fin 4) (ho : o = ![h.val, 0, 0]) :
    shapeCast S80x256 (View.readAt (Elt F) a.view (Rect.unit (s := S4x80x256) o S1x80x256.size inb).toLoadRect X)
      shapeCasts_S1x80x256_S80x256 = accOf (a.view.read (Elt F) X) h := by
  subst ho
  funext j
  refine (shapeCast_apply _ _ j (ix3 (0 : Fin 1) (j 0 : Fin 80) (j 1 : Fin 256)) (by
    rw [Shape.rowMajor_val_three, Shape.rowMajor_val_two]
    show (0 * 80 + (j 0).val) * 256 + (j 1).val = (j 0).val * 256 + (j 1).val
    rw [Nat.zero_mul, Nat.zero_add])).trans ?_
  refine congrArg (a.view.read (Elt F) X) ?_
  funext x; apply Fin.ext; fin_cases x
  · show h.val + 1 * 0 = h.val; rw [Nat.mul_zero, Nat.add_zero]
  · show 0 + 1 * (j 0).val = _; rw [Nat.one_mul, Nat.zero_add]; rfl
  · show 0 + 1 * (j 1).val = _; rw [Nat.one_mul, Nat.zero_add]; rfl

theorem slotOf_hit (a : Memref sig .tc .vmem S2x2048x256 .f32) (f : BufTy.Contents (Elt F) a.view.ty) (n : ℕ) (hs : n < 2)
    (w : Fin 8 → FVec F S256x256 .f32) (L : List (View.Piece (Elt F) S2x2048x256 .f32)) (s : Fin 2) (hn : s.val = n) :
    slotOf (a.view.read (Elt F) (a.view.writes (Elt F) f (slotPieces n hs w ++ L))) s = w := by
  subst hn
  funext c j
  rw [View.writes_append]
  refine (read_slot a _ s hs w c (j 0) (j 1)).trans (congrArg (w c) (ix2_eta j))

theorem slotOf_miss (a : Memref sig .tc .vmem S2x2048x256 .f32) (f : BufTy.Contents (Elt F) a.view.ty) (s : ℕ) (hs : s < 2)
    (w : Fin 8 → FVec F S256x256 .f32) (L : List (View.Piece (Elt F) S2x2048x256 .f32)) (s' : Fin 2) (hne : s'.val ≠ s) :
    slotOf (a.view.read (Elt F) (a.view.writes (Elt F) f (slotPieces s hs w ++ L))) s'
      = slotOf (a.view.read (Elt F) (a.view.writes (Elt F) f L)) s' := by
  funext c j
  rw [View.writes_append]
  exact read_slot_other a _ s hs w s' hne _ _

/-- A function of the eight chunks given by its values. -/
theorem funext8 {α : Type} {a0 a1 a2 a3 a4 a5 a6 a7 : α} (g : Fin 8 → α) (h0 : a0 = g 0) (h1 : a1 = g 1) (h2 : a2 = g 2)
    (h3 : a3 = g 3) (h4 : a4 = g 4) (h5 : a5 = g 5) (h6 : a6 = g 6) (h7 : a7 = g 7) : ![a0, a1, a2, a3, a4, a5, a6, a7] = g := by
  subst h0 h1 h2 h3 h4 h5 h6 h7
  funext c; fin_cases c <;> rfl

theorem score (a9 : Memref sig .tc .vmem S8x512x256 .bf16) (X9 : BufTy.Contents (Elt F) a9.view.ty)
    (a10 : Memref sig .tc .vmem S2048x128 .bf16) (X10 : BufTy.Contents (Elt F) a10.view.ty)
    (o : Fin 3 → ℕ) (inb : ∀ x, o x + S1x128x256.size x ≤ S8x512x256.size x) (t : Fin 8) (h : Fin 4)
    (ho : o = ![t.val, 128 * h.val, 0]) (o' : Fin 2 → ℕ) (inb' : ∀ x, o' x + S256x128.size x ≤ S2048x128.size x) (c : Fin 8)
    (ho' : o' = ![256 * c.val, 0]) :
    scoreBlk (View.readAt (Elt F) a10.view (Rect.unit (s := S2048x128) o' S256x128.size inb').toLoadRect X10)
      (shapeCast S128x256 (View.readAt (Elt F) a9.view (Rect.unit (s := S8x512x256) o S1x128x256.size inb).toLoadRect X9)
        shapeCasts_S1x128x256_S128x256) = S (a9.view.read (Elt F) X9) (a10.view.read (Elt F) X10) t h c := by
  rw [q_load a9 X9 o inb t h ho, k_load a10 X10 o' inb' c ho']; rfl

/-! ## The trip -/

theorem off5 : ∀ k : Fin k0_t1_loop.trips, k0_off5 k = ![k.val, 128, 0] := by decide +kernel
theorem off6 : ∀ k : Fin k0_t1_loop.trips, k0_off6 k = ![0, 256 * (k.val - 1), 0] := by decide +kernel
theorem off7 : ∀ k : Fin k0_t1_loop.trips, k0_off7 k = ![k.val, 256, 0] := by decide +kernel
theorem off8 : ∀ k : Fin k0_t1_loop.trips, k0_off8 k = ![k.val, 384, 0] := by decide +kernel
theorem off9 : ∀ k : Fin k0_t1_loop.trips, k0_off9 k = ![min (k.val + 1) 7, 0, 0] := by decide +kernel
theorem trips_eq : k0_t1_loop.trips = 8 := by decide +kernel

/-- The tile of trip `k`, and the next one. -/
def tl (k : Fin k0_t1_loop.trips) : Fin 8 := ⟨k.val, by have := k.isLt; have := trips_eq; omega⟩
def nx (k : Fin k0_t1_loop.trips) : Fin 8 := ⟨min (k.val + 1) 7, by omega⟩

section Trip

variable (a9 : Memref sig .tc .vmem S8x512x256 .bf16) (X9 : BufTy.Contents (Elt F) a9.view.ty)
  (a10 : Memref sig .tc .vmem S2048x128 .bf16) (X10 : BufTy.Contents (Elt F) a10.view.ty)
  (a11 : Memref sig .tc .vmem S2x8x80x256 .bf16) (X11 : BufTy.Contents (Elt F) a11.view.ty)
  (a12 : Memref sig .tc .vmem S2x2048x256 .f32) (f12 : BufTy.Contents (Elt F) a12.view.ty)
  (a13 : Memref sig .tc .vmem S4x80x256 .f32) (f13 : BufTy.Contents (Elt F) a13.view.ty)
  (m : FVec F S1x256 .f32) (k : Fin k0_t1_loop.trips)

/-- The eight chunks' scores of one head, the loads of the keys being at the chunks' rows. -/
theorem scores8 (o : Fin 3 → ℕ) (inb : ∀ x, o x + S1x128x256.size x ≤ S8x512x256.size x) (t : Fin 8) (h : Fin 4)
    (ho : o = ![t.val, 128 * h.val, 0]) :
    let q := shapeCast S128x256 (View.readAt (Elt F) a9.view (Rect.unit (s := S8x512x256) o S1x128x256.size inb).toLoadRect X9) shapeCasts_S1x128x256_S128x256
    (![scoreBlk (View.readAt (Elt F) a10.view (Rect.unit (s := S2048x128) ![0, 0] S256x128.size inb_S2048x128_S256x128_0_0).toLoadRect X10) q,
      scoreBlk (View.readAt (Elt F) a10.view (Rect.unit (s := S2048x128) ![256, 0] S256x128.size inb_S2048x128_S256x128_256_0).toLoadRect X10) q,
      scoreBlk (View.readAt (Elt F) a10.view (Rect.unit (s := S2048x128) ![512, 0] S256x128.size inb_S2048x128_S256x128_512_0).toLoadRect X10) q,
      scoreBlk (View.readAt (Elt F) a10.view (Rect.unit (s := S2048x128) ![768, 0] S256x128.size inb_S2048x128_S256x128_768_0).toLoadRect X10) q,
      scoreBlk (View.readAt (Elt F) a10.view (Rect.unit (s := S2048x128) ![1024, 0] S256x128.size inb_S2048x128_S256x128_1024_0).toLoadRect X10) q,
      scoreBlk (View.readAt (Elt F) a10.view (Rect.unit (s := S2048x128) ![1280, 0] S256x128.size inb_S2048x128_S256x128_1280_0).toLoadRect X10) q,
      scoreBlk (View.readAt (Elt F) a10.view (Rect.unit (s := S2048x128) ![1536, 0] S256x128.size inb_S2048x128_S256x128_1536_0).toLoadRect X10) q,
      scoreBlk (View.readAt (Elt F) a10.view (Rect.unit (s := S2048x128) ![1792, 0] S256x128.size inb_S2048x128_S256x128_1792_0).toLoadRect X10) q] : Fin 8 → FVec F S256x256 .f32)
      = S (a9.view.read (Elt F) X9) (a10.view.read (Elt F) X10) t h :=
  funext8 _ (score a9 X9 a10 X10 o inb t h ho _ _ 0 rfl)
    (score a9 X9 a10 X10 o inb t h ho _ _ 1 rfl)
    (score a9 X9 a10 X10 o inb t h ho _ _ 2 rfl)
    (score a9 X9 a10 X10 o inb t h ho _ _ 3 rfl)
    (score a9 X9 a10 X10 o inb t h ho _ _ 4 rfl)
    (score a9 X9 a10 X10 o inb t h ho _ _ 5 rfl)
    (score a9 X9 a10 X10 o inb t h ho _ _ 6 rfl)
    (score a9 X9 a10 X10 o inb t h ho _ _ 7 rfl)

/-- The eight chunks' values of one key head. -/
theorem values8 (g : Fin 2) (inb : ∀ (c : Fin 8) x, (![g.val, c.val, 0, 0] : Fin 4 → ℕ) x + S1x1x80x256.size x ≤ S2x8x80x256.size x) :
    (![shapeCast S80x256 (View.readAt (Elt F) a11.view (Rect.unit (s := S2x8x80x256) ![g.val, 0, 0, 0] S1x1x80x256.size (inb 0)).toLoadRect X11) shapeCasts_S1x1x80x256_S80x256,
      shapeCast S80x256 (View.readAt (Elt F) a11.view (Rect.unit (s := S2x8x80x256) ![g.val, 1, 0, 0] S1x1x80x256.size (inb 1)).toLoadRect X11) shapeCasts_S1x1x80x256_S80x256,
      shapeCast S80x256 (View.readAt (Elt F) a11.view (Rect.unit (s := S2x8x80x256) ![g.val, 2, 0, 0] S1x1x80x256.size (inb 2)).toLoadRect X11) shapeCasts_S1x1x80x256_S80x256,
      shapeCast S80x256 (View.readAt (Elt F) a11.view (Rect.unit (s := S2x8x80x256) ![g.val, 3, 0, 0] S1x1x80x256.size (inb 3)).toLoadRect X11) shapeCasts_S1x1x80x256_S80x256,
      shapeCast S80x256 (View.readAt (Elt F) a11.view (Rect.unit (s := S2x8x80x256) ![g.val, 4, 0, 0] S1x1x80x256.size (inb 4)).toLoadRect X11) shapeCasts_S1x1x80x256_S80x256,
      shapeCast S80x256 (View.readAt (Elt F) a11.view (Rect.unit (s := S2x8x80x256) ![g.val, 5, 0, 0] S1x1x80x256.size (inb 5)).toLoadRect X11) shapeCasts_S1x1x80x256_S80x256,
      shapeCast S80x256 (View.readAt (Elt F) a11.view (Rect.unit (s := S2x8x80x256) ![g.val, 6, 0, 0] S1x1x80x256.size (inb 6)).toLoadRect X11) shapeCasts_S1x1x80x256_S80x256,
      shapeCast S80x256 (View.readAt (Elt F) a11.view (Rect.unit (s := S2x8x80x256) ![g.val, 7, 0, 0] S1x1x80x256.size (inb 7)).toLoadRect X11) shapeCasts_S1x1x80x256_S80x256] : Fin 8 → FVec F S80x256 .bf16)
      = vChunk (a11.view.read (Elt F) X11) g :=
  funext8 _ (v_load a11 X11 _ _ g 0 rfl) (v_load a11 X11 _ _ g 1 rfl) (v_load a11 X11 _ _ g 2 rfl) (v_load a11 X11 _ _ g 3 rfl) (v_load a11 X11 _ _ g 4 rfl) (v_load a11 X11 _ _ g 5 rfl) (v_load a11 X11 _ _ g 6 rfl) (v_load a11 X11 _ _ g 7 rfl)

/-- The eight chunks of one slot of the score buffer. -/
theorem slots8 (s : Fin 2) :
    (![shapeCast S256x256 (View.readAt (Elt F) a12.view (Rect.unit (s := S2x2048x256) ![s.val, 0, 0] S1x256x256.size (slot_inb s.isLt (by decide))).toLoadRect f12) shapeCasts_S1x256x256_S256x256,
      shapeCast S256x256 (View.readAt (Elt F) a12.view (Rect.unit (s := S2x2048x256) ![s.val, 256, 0] S1x256x256.size (slot_inb s.isLt (by decide))).toLoadRect f12) shapeCasts_S1x256x256_S256x256,
      shapeCast S256x256 (View.readAt (Elt F) a12.view (Rect.unit (s := S2x2048x256) ![s.val, 512, 0] S1x256x256.size (slot_inb s.isLt (by decide))).toLoadRect f12) shapeCasts_S1x256x256_S256x256,
      shapeCast S256x256 (View.readAt (Elt F) a12.view (Rect.unit (s := S2x2048x256) ![s.val, 768, 0] S1x256x256.size (slot_inb s.isLt (by decide))).toLoadRect f12) shapeCasts_S1x256x256_S256x256,
      shapeCast S256x256 (View.readAt (Elt F) a12.view (Rect.unit (s := S2x2048x256) ![s.val, 1024, 0] S1x256x256.size (slot_inb s.isLt (by decide))).toLoadRect f12) shapeCasts_S1x256x256_S256x256,
      shapeCast S256x256 (View.readAt (Elt F) a12.view (Rect.unit (s := S2x2048x256) ![s.val, 1280, 0] S1x256x256.size (slot_inb s.isLt (by decide))).toLoadRect f12) shapeCasts_S1x256x256_S256x256,
      shapeCast S256x256 (View.readAt (Elt F) a12.view (Rect.unit (s := S2x2048x256) ![s.val, 1536, 0] S1x256x256.size (slot_inb s.isLt (by decide))).toLoadRect f12) shapeCasts_S1x256x256_S256x256,
      shapeCast S256x256 (View.readAt (Elt F) a12.view (Rect.unit (s := S2x2048x256) ![s.val, 1792, 0] S1x256x256.size (slot_inb s.isLt (by decide))).toLoadRect f12) shapeCasts_S1x256x256_S256x256] : Fin 8 → FVec F S256x256 .f32)
      = slotOf (a12.view.read (Elt F) f12) s :=
  funext8 _ (slot_load a12 f12 _ _ s 0 rfl) (slot_load a12 f12 _ _ s 1 rfl) (slot_load a12 f12 _ _ s 2 rfl) (slot_load a12 f12 _ _ s 3 rfl) (slot_load a12 f12 _ _ s 4 rfl) (slot_load a12 f12 _ _ s 5 rfl) (slot_load a12 f12 _ _ s 6 rfl) (slot_load a12 f12 _ _ s 7 rfl)

/-- The column maxima that the trip takes: of heads 1, 2, 3 of its tile and of head 0 of the next. -/
theorem max1 : trip_k0_t1.sl.v2572 a9 a10 X9 X10 k = colMax (S (a9.view.read (Elt F) X9) (a10.view.read (Elt F) X10) (tl k) 1) :=
  (show trip_k0_t1.sl.v2572 a9 a10 X9 X10 k = colMax ![trip_k0_t1.sl.v2509 a9 a10 X9 X10 k, trip_k0_t1.sl.v2511 a9 a10 X9 X10 k, trip_k0_t1.sl.v2513 a9 a10 X9 X10 k, trip_k0_t1.sl.v2515 a9 a10 X9 X10 k, trip_k0_t1.sl.v2517 a9 a10 X9 X10 k, trip_k0_t1.sl.v2519 a9 a10 X9 X10 k, trip_k0_t1.sl.v2521 a9 a10 X9 X10 k, trip_k0_t1.sl.v2523 a9 a10 X9 X10 k] from rfl).trans
    (congrArg colMax (scores8 a9 X9 a10 X10 (k0_off5 k) (facts.k0_off5_inb k) (tl k) 1 (off5 k)))
theorem max2 : trip_k0_t1.sl.v2757 a9 a10 X9 X10 k = colMax (S (a9.view.read (Elt F) X9) (a10.view.read (Elt F) X10) (tl k) 2) :=
  (show trip_k0_t1.sl.v2757 a9 a10 X9 X10 k = colMax ![trip_k0_t1.sl.v2694 a9 a10 X9 X10 k, trip_k0_t1.sl.v2696 a9 a10 X9 X10 k, trip_k0_t1.sl.v2698 a9 a10 X9 X10 k, trip_k0_t1.sl.v2700 a9 a10 X9 X10 k, trip_k0_t1.sl.v2702 a9 a10 X9 X10 k, trip_k0_t1.sl.v2704 a9 a10 X9 X10 k, trip_k0_t1.sl.v2706 a9 a10 X9 X10 k, trip_k0_t1.sl.v2708 a9 a10 X9 X10 k] from rfl).trans
    (congrArg colMax (scores8 a9 X9 a10 X10 (k0_off7 k) (facts.k0_off7_inb k) (tl k) 2 (off7 k)))
theorem max3 : trip_k0_t1.sl.v2907 a9 a10 X9 X10 k = colMax (S (a9.view.read (Elt F) X9) (a10.view.read (Elt F) X10) (tl k) 3) :=
  (show trip_k0_t1.sl.v2907 a9 a10 X9 X10 k = colMax ![trip_k0_t1.sl.v2844 a9 a10 X9 X10 k, trip_k0_t1.sl.v2846 a9 a10 X9 X10 k, trip_k0_t1.sl.v2848 a9 a10 X9 X10 k, trip_k0_t1.sl.v2850 a9 a10 X9 X10 k, trip_k0_t1.sl.v2852 a9 a10 X9 X10 k, trip_k0_t1.sl.v2854 a9 a10 X9 X10 k, trip_k0_t1.sl.v2856 a9 a10 X9 X10 k, trip_k0_t1.sl.v2858 a9 a10 X9 X10 k] from rfl).trans
    (congrArg colMax (scores8 a9 X9 a10 X10 (k0_off8 k) (facts.k0_off8_inb k) (tl k) 3 (off8 k)))
theorem max0 : trip_k0_t1.sl.v3057 a9 a10 X9 X10 k = colMax (S (a9.view.read (Elt F) X9) (a10.view.read (Elt F) X10) (nx k) 0) :=
  (show trip_k0_t1.sl.v3057 a9 a10 X9 X10 k = colMax ![trip_k0_t1.sl.v2994 a9 a10 X9 X10 k, trip_k0_t1.sl.v2996 a9 a10 X9 X10 k, trip_k0_t1.sl.v2998 a9 a10 X9 X10 k, trip_k0_t1.sl.v3000 a9 a10 X9 X10 k, trip_k0_t1.sl.v3002 a9 a10 X9 X10 k, trip_k0_t1.sl.v3004 a9 a10 X9 X10 k, trip_k0_t1.sl.v3006 a9 a10 X9 X10 k, trip_k0_t1.sl.v3008 a9 a10 X9 X10 k] from rfl).trans
    (congrArg colMax (scores8 a9 X9 a10 X10 (k0_off9 k) (facts.k0_off9_inb k) (nx k) 0 (off9 k)))

/-- The score buffer's stores after heads 1 and 2, after head 3, and after the next tile's head 0. -/
theorem hw16 : trip_k0_t1.sl.HW_arg12_16 a9 a10 X9 X10 k
    = slotPieces 0 (by decide) (S (a9.view.read (Elt F) X9) (a10.view.read (Elt F) X10) (tl k) 2)
      ++ slotPieces 1 (by decide) (S (a9.view.read (Elt F) X9) (a10.view.read (Elt F) X10) (tl k) 1) :=
  congrArg₂ (fun x y => slotPieces 0 (by decide) x ++ slotPieces 1 (by decide) y)
    (scores8 a9 X9 a10 X10 (k0_off7 k) (facts.k0_off7_inb k) (tl k) 2 (off7 k))
    (scores8 a9 X9 a10 X10 (k0_off5 k) (facts.k0_off5_inb k) (tl k) 1 (off5 k))
theorem hw24 : trip_k0_t1.sl.HW_arg12_24 a9 a10 X9 X10 k
    = slotPieces 1 (by decide) (S (a9.view.read (Elt F) X9) (a10.view.read (Elt F) X10) (tl k) 3)
      ++ trip_k0_t1.sl.HW_arg12_16 a9 a10 X9 X10 k :=
  congrArg (fun x => slotPieces 1 (by decide) x ++ trip_k0_t1.sl.HW_arg12_16 a9 a10 X9 X10 k)
    (scores8 a9 X9 a10 X10 (k0_off8 k) (facts.k0_off8_inb k) (tl k) 3 (off8 k))
theorem hw32 : trip_k0_t1.sl.HW_arg12_32 a9 a10 X9 X10 k
    = slotPieces 0 (by decide) (S (a9.view.read (Elt F) X9) (a10.view.read (Elt F) X10) (nx k) 0)
      ++ trip_k0_t1.sl.HW_arg12_24 a9 a10 X9 X10 k :=
  congrArg (fun x => slotPieces 0 (by decide) x ++ trip_k0_t1.sl.HW_arg12_24 a9 a10 X9 X10 k)
    (scores8 a9 X9 a10 X10 (k0_off9 k) (facts.k0_off9_inb k) (nx k) 0 (off9 k))

theorem vinb (g : Fin 2) : ∀ (c : Fin 8) x, (![g.val, c.val, 0, 0] : Fin 4 → ℕ) x + S1x1x80x256.size x ≤ S2x8x80x256.size x := by
  revert g; decide

/-- The four heads' accumulators that the trip stores. -/
theorem acc0 : trip_k0_t1.sl.v2689 a11 a12 X11 m f12
    = shapeCast S1x80x256 (headAcc (slotOf (a12.view.read (Elt F) f12) 0) m (vChunk (a11.view.read (Elt F) X11) 0)) shapeCasts_S80x256_S1x80x256 :=
  congrArg₂ (fun x y => shapeCast S1x80x256 (headAcc x m y) shapeCasts_S80x256_S1x80x256) (slots8 a12 f12 0) (values8 a11 X11 0 (vinb 0))
theorem acc1 : trip_k0_t1.sl.v2839 a9 a10 a11 a12 X9 X10 X11 k
    = shapeCast S1x80x256 (acc (a9.view.read (Elt F) X9) (a10.view.read (Elt F) X10) (a11.view.read (Elt F) X11) (tl k) 1) shapeCasts_S80x256_S1x80x256 := by
  refine (congrArg₂ (fun x y => shapeCast S1x80x256 (headAcc x (trip_k0_t1.sl.v2572 a9 a10 X9 X10 k) y) shapeCasts_S80x256_S1x80x256)
    (slots8 a12 (a12.view.writes (Elt F) a12.view.junk (trip_k0_t1.sl.HW_arg12_16 a9 a10 X9 X10 k)) 1) (values8 a11 X11 0 (vinb 0))).trans ?_
  beta_reduce
  rw [max1, hw16, slotOf_miss _ _ _ _ _ _ 1 (by decide), ← List.append_nil (slotPieces 1 _ _)]
  rw [slotOf_hit _ _ _ _ _ _ 1 (by rfl)]
  rfl
theorem acc2 : trip_k0_t1.sl.v2989 a9 a10 a11 a12 X9 X10 X11 k
    = shapeCast S1x80x256 (acc (a9.view.read (Elt F) X9) (a10.view.read (Elt F) X10) (a11.view.read (Elt F) X11) (tl k) 2) shapeCasts_S80x256_S1x80x256 := by
  refine (congrArg₂ (fun x y => shapeCast S1x80x256 (headAcc x (trip_k0_t1.sl.v2757 a9 a10 X9 X10 k) y) shapeCasts_S80x256_S1x80x256)
    (slots8 a12 (a12.view.writes (Elt F) a12.view.junk (trip_k0_t1.sl.HW_arg12_24 a9 a10 X9 X10 k)) 0) (values8 a11 X11 1 (vinb 1))).trans ?_
  beta_reduce
  rw [max2, hw24, slotOf_miss _ _ _ _ _ _ 0 (by decide), hw16]
  rw [slotOf_hit _ _ _ _ _ _ 0 (by rfl)]
  rfl
theorem acc3 : k0_pay353 (trip_k0_t1.sl.v3126 a9 a10 a11 a12 X9 X10 X11 k) (trip_k0_t1.sl.v3131 a9 a10 a12 X9 X10 k)
      (View.readAt (Elt F) a11.view (Rect.unit (s := S2x8x80x256) ![1, 7, 0, 0] S1x1x80x256.size inb_S2x8x80x256_S1x1x80x256_1_7_0_0).toLoadRect X11)
    = shapeCast S1x80x256 (acc (a9.view.read (Elt F) X9) (a10.view.read (Elt F) X10) (a11.view.read (Elt F) X11) (tl k) 3) shapeCasts_S80x256_S1x80x256 := by
  refine (congrArg₂ (fun x y => shapeCast S1x80x256 (headAcc x (trip_k0_t1.sl.v2907 a9 a10 X9 X10 k) y) shapeCasts_S80x256_S1x80x256)
    (slots8 a12 (a12.view.writes (Elt F) a12.view.junk (trip_k0_t1.sl.HW_arg12_32 a9 a10 X9 X10 k)) 1) (values8 a11 X11 1 (vinb 1))).trans ?_
  beta_reduce
  rw [max3, hw32, slotOf_miss _ _ _ _ _ _ 1 (by decide), hw24]
  rw [slotOf_hit _ _ _ _ _ _ 1 (by rfl)]
  rfl

/-- The output tile that the trip stores: the one of the accumulators it finds. -/
theorem out0 : trip_k0_t1.sl.v2607 a13 f13 = outTile (accOf (a13.view.read (Elt F) f13)) := by
  have h : (![shapeCast S80x256 (View.readAt (Elt F) a13.view (Rect.unit (s := S4x80x256) ![0, 0, 0] S1x80x256.size inb_S4x80x256_S1x80x256_0_0_0).toLoadRect f13) shapeCasts_S1x80x256_S80x256,
      shapeCast S80x256 (View.readAt (Elt F) a13.view (Rect.unit (s := S4x80x256) ![1, 0, 0] S1x80x256.size inb_S4x80x256_S1x80x256_1_0_0).toLoadRect f13) shapeCasts_S1x80x256_S80x256,
      shapeCast S80x256 (View.readAt (Elt F) a13.view (Rect.unit (s := S4x80x256) ![2, 0, 0] S1x80x256.size inb_S4x80x256_S1x80x256_2_0_0).toLoadRect f13) shapeCasts_S1x80x256_S80x256,
      shapeCast S80x256 (View.readAt (Elt F) a13.view (Rect.unit (s := S4x80x256) ![3, 0, 0] S1x80x256.size inb_S4x80x256_S1x80x256_3_0_0).toLoadRect f13) shapeCasts_S1x80x256_S80x256] : Fin 4 → FVec F S80x256 .f32)
      = accOf (a13.view.read (Elt F) f13) := by
    funext h
    fin_cases h
    · exact acc_load a13 f13 _ _ 0 rfl
    · exact acc_load a13 f13 _ _ 1 rfl
    · exact acc_load a13 f13 _ _ 2 rfl
    · exact acc_load a13 f13 _ _ 3 rfl
  exact congrArg outTile h

end Trip

/-! ## The loop -/

/-- The tile of index `n`, the last one from there on. -/
def tile (n : ℕ) : Fin 8 := ⟨min n 7, by omega⟩

/-- What holds before trip `n`: the carried value and the score buffer's slot 0 are those of tile `n`'s head 0, the accumulator holds tile `n - 1`, the output the tiles before it. -/
structure Inv (Q : S8x512x256.Idx → Elt F .bf16) (K : S2048x128.Idx → Elt F .bf16) (W : S2x8x80x256.Idx → Elt F .bf16) (n : ℕ)
    (m : FVec F S1x256 .f32) (B8 : S1x2048x256.Idx → Elt F .bf16) (B12 : S2x2048x256.Idx → Elt F .f32)
    (B13 : S4x80x256.Idx → Elt F .f32) : Prop where
  max : m = colMax (S Q K (tile n) 0)
  slot : slotOf B12 0 = S Q K (tile n) 0
  acc : 1 ≤ n → accOf B13 = acc Q K W (tile (n - 1))
  out : ∀ t : Fin 8, t.val + 1 < n → ∀ (r d : Fin 256),
    B8 (ix3 (0 : Fin 1) (⟨256 * t.val + r.val, by omega⟩ : Fin 2048) d) = out Q K W t (ix3 (0 : Fin 1) r d)

/-- The store of one output tile: its own rows read it, the other tiles' rows are kept. -/
theorem out_store (a : Memref sig .tc .vmem S1x2048x256 .bf16) (f : BufTy.Contents (Elt F) a.view.ty) (o : Fin 3 → ℕ)
    (inb : ∀ x, o x + S1x256x256.size x ≤ S1x2048x256.size x) (w : FVec F S1x256x256 .bf16) (n : ℕ) (ho : o = ![0, 256 * n, 0])
    (t : Fin 8) (r d : Fin 256) :
    a.view.read (Elt F) (a.view.writes (Elt F) f [⟨Rect.unit (s := S1x2048x256) o S1x256x256.size inb, w⟩])
      (ix3 (0 : Fin 1) (⟨256 * t.val + r.val, by omega⟩ : Fin 2048) d)
      = if t.val = n then w (ix3 (0 : Fin 1) r d)
        else a.view.read (Elt F) f (ix3 (0 : Fin 1) (⟨256 * t.val + r.val, by omega⟩ : Fin 2048) d) := by
  subst ho
  split_ifs with h
  · subst h
    have hy : (Rect.unit (s := S1x2048x256) ![0, 256 * t.val, 0] S1x256x256.size inb).emb (ix3 (0 : Fin 1) r d)
        = ix3 (0 : Fin 1) (⟨256 * t.val + r.val, by omega⟩ : Fin 2048) d := by
      funext x; apply Fin.ext; fin_cases x
      · rfl
      · show 256 * t.val + 1 * r.val = 256 * t.val + r.val; rw [Nat.one_mul]
      · show 0 + 1 * d.val = d.val; rw [Nat.one_mul, Nat.zero_add]
    rw [← hy]
    exact View.read_writes_cons_emb _ _ _ _ _ _
  · refine View.read_writes_cons_unit_of_not_mem (off' := (![0, 256 * n, 0] : Fin 3 → ℕ)) _ _ _ _ _ _ rfl (1 : Fin 3) ?_
    show 256 * t.val + r.val < 256 * n ∨ 256 * n + 256 ≤ 256 * t.val + r.val
    omega

/-- The stores of the four heads' accumulators. -/
theorem acc_stores (a : Memref sig .tc .vmem S4x80x256 .f32) (f : BufTy.Contents (Elt F) a.view.ty) (w : Fin 4 → FVec F S80x256 .f32) :
    accOf (a.view.read (Elt F) (a.view.writes (Elt F) f
      [⟨Rect.unit (s := S4x80x256) ![3, 0, 0] S1x80x256.size inb_S4x80x256_S1x80x256_3_0_0, shapeCast S1x80x256 (w 3) shapeCasts_S80x256_S1x80x256⟩,
       ⟨Rect.unit (s := S4x80x256) ![2, 0, 0] S1x80x256.size inb_S4x80x256_S1x80x256_2_0_0, shapeCast S1x80x256 (w 2) shapeCasts_S80x256_S1x80x256⟩,
       ⟨Rect.unit (s := S4x80x256) ![1, 0, 0] S1x80x256.size inb_S4x80x256_S1x80x256_1_0_0, shapeCast S1x80x256 (w 1) shapeCasts_S80x256_S1x80x256⟩,
       ⟨Rect.unit (s := S4x80x256) ![0, 0, 0] S1x80x256.size inb_S4x80x256_S1x80x256_0_0_0, shapeCast S1x80x256 (w 0) shapeCasts_S80x256_S1x80x256⟩])) = w := by
  have hit : ∀ (h : Fin 4) (inb : ∀ x, (![h.val, 0, 0] : Fin 3 → ℕ) x + S1x80x256.size x ≤ S4x80x256.size x) (L : List (View.Piece (Elt F) S4x80x256 .f32)) (r : Fin 80) (d : Fin 256),
      a.view.read (Elt F) (a.view.writes (Elt F) f (⟨Rect.unit (s := S4x80x256) ![h.val, 0, 0] S1x80x256.size inb, shapeCast S1x80x256 (w h) shapeCasts_S80x256_S1x80x256⟩ :: L)) (ix3 h r d) = w h (ix2 r d) := by
    intro h inb L r d
    have hy : (Rect.unit (s := S4x80x256) ![h.val, 0, 0] S1x80x256.size inb).emb (ix3 (0 : Fin 1) r d) = ix3 h r d := by
      funext x; apply Fin.ext; fin_cases x
      · show h.val + 1 * 0 = h.val; rw [Nat.mul_zero, Nat.add_zero]
      · show 0 + 1 * r.val = r.val; rw [Nat.one_mul, Nat.zero_add]
      · show 0 + 1 * d.val = d.val; rw [Nat.one_mul, Nat.zero_add]
    rw [← hy]
    refine (View.read_writes_cons_emb _ _ _ _ _ _).trans ?_
    exact shapeCast_apply _ _ _ _ (by
      rw [Shape.rowMajor_val_three, Shape.rowMajor_val_two]
      show r.val * 256 + d.val = (0 * 80 + r.val) * 256 + d.val
      rw [Nat.zero_mul, Nat.zero_add])
  have miss : ∀ (n : ℕ) (h : Fin 4) (_ : h.val < n) (inb : ∀ x, (![n, 0, 0] : Fin 3 → ℕ) x + S1x80x256.size x ≤ S4x80x256.size x) (v : FVec F S1x80x256 .f32) (L : List (View.Piece (Elt F) S4x80x256 .f32)) (r : Fin 80) (d : Fin 256),
      a.view.read (Elt F) (a.view.writes (Elt F) f (⟨Rect.unit (s := S4x80x256) ![n, 0, 0] S1x80x256.size inb, v⟩ :: L)) (ix3 h r d)
        = a.view.read (Elt F) (a.view.writes (Elt F) f L) (ix3 h r d) := by
    intro n h hn inb v L r d
    refine View.read_writes_cons_unit_of_not_mem (off' := (![n, 0, 0] : Fin 3 → ℕ)) _ _ _ _ _ _ rfl (0 : Fin 3) ?_
    left; exact hn
  funext h j
  obtain ⟨r, d, rfl⟩ : ∃ (r : Fin 80) (d : Fin 256), j = ix2 r d := ⟨_, _, eq_ix2 j⟩
  show a.view.read (Elt F) _ (ix3 h r d) = _
  have h4 : h = 3 ∨ h = 2 ∨ h = 1 ∨ h = 0 := by omega
  rcases h4 with rfl | rfl | rfl | rfl
  · exact hit 3 _ _ r d
  · rw [miss 3 _ (by decide)]; exact hit 2 _ _ r d
  · rw [miss 3 _ (by decide), miss 2 _ (by decide)]; exact hit 1 _ _ r d
  · rw [miss 3 _ (by decide), miss 2 _ (by decide), miss 1 _ (by decide)]; exact hit 0 _ _ r d

section Loop

variable (𝒱 : Variants) (c : Dev nD) (bd : Option 𝒱.V) (i : grid0.Coords) (arg1 : Memref sig .tc .vmem S1x2048x256 .f32)
  (harg1 : arg1.IsWhole) (arg2 : Memref sig .tc .vmem S1x2048x128 .f32) (harg2 : arg2.IsWhole)
  (arg3 : Memref sig .tc .vmem S1x2048x128 .f32) (harg3 : arg3.IsWhole) (arg4 : Memref sig .tc .vmem S8x128x256 .f32)
  (harg4 : arg4.IsWhole) (arg5 : Memref sig .tc .vmem S8x128x256 .f32) (harg5 : arg5.IsWhole)
  (arg6 : Memref sig .tc .vmem S2048x128 .f32) (harg6 : arg6.IsWhole) (arg7 : Memref sig .tc .vmem S2048x128 .f32)
  (harg7 : arg7.IsWhole) (arg8 : Memref sig .tc .vmem S1x2048x256 .bf16) (harg8 : arg8.IsWhole)
  (arg9 : Memref sig .tc .vmem S8x512x256 .bf16) (harg9 : arg9.IsWhole) (arg10 : Memref sig .tc .vmem S2048x128 .bf16)
  (harg10 : arg10.IsWhole) (arg11 : Memref sig .tc .vmem S2x8x80x256 .bf16) (harg11 : arg11.IsWhole)
  (arg12 : Memref sig .tc .vmem S2x2048x256 .f32) (harg12 : arg12.IsWhole) (arg13 : Memref sig .tc .vmem S4x80x256 .f32)
  (harg13 : arg13.IsWhole) (v2415 : FVec F S256x256 .f32) (v2417 : FVec F S256x256 .f32) (v2419 : FVec F S256x256 .f32)
  (v2421 : FVec F S256x256 .f32) (v2444 : FVec F S8x256 .f32) (X_arg9 : BufTy.Contents (Elt F) arg9.view.ty)
  (X_arg10 : BufTy.Contents (Elt F) arg10.view.ty) (X_arg11 : BufTy.Contents (Elt F) arg11.view.ty)
  (G_arg8 : BufTy.Contents (Elt F) arg8.view.ty) (G_arg12 : BufTy.Contents (Elt F) arg12.view.ty)
  (G_arg13 : BufTy.Contents (Elt F) arg13.view.ty) (init : FVec F S1x256 .f32)

/-- What one trip carries on and stores. -/
theorem trip_eq (k : Fin k0_t1_loop.trips) (m : FVec F S1x256 .f32) (f8 : BufTy.Contents (Elt F) arg8.view.ty)
    (f12 : BufTy.Contents (Elt F) arg12.view.ty) (f13 : BufTy.Contents (Elt F) arg13.view.ty) :
    (let T := trip_k0_t1 (F := F) 𝒱 c bd i arg1 harg1 arg2 harg2 arg3 harg3 arg4 harg4 arg5 harg5 arg6 harg6 arg7 harg7 arg8 harg8 arg9 harg9 arg10 harg10 arg11 harg11
      arg12 harg12 arg13 harg13 v2415 v2417 v2419 v2421 v2444 X_arg9 X_arg10 X_arg11 k
    T.1 m f8 f12 f13 = colMax (S (arg9.view.read (Elt F) X_arg9) (arg10.view.read (Elt F) X_arg10) (nx k) 0)
    ∧ T.2.1 m f8 f12 f13 = [⟨Rect.unit (s := S1x2048x256) (k0_off6 k) S1x256x256.size (facts.k0_off6_inb k), outTile (accOf (arg13.view.read (Elt F) f13))⟩]
    ∧ T.2.2.1 m f8 f12 f13 = slotPieces 0 (by decide) (S (arg9.view.read (Elt F) X_arg9) (arg10.view.read (Elt F) X_arg10) (nx k) 0)
        ++ trip_k0_t1.sl.HW_arg12_24 arg9 arg10 X_arg9 X_arg10 k
    ∧ ∃ w : Fin 4 → FVec F S80x256 .f32, T.2.2.2.1 m f8 f12 f13 =
      [⟨Rect.unit (s := S4x80x256) ![3, 0, 0] S1x80x256.size inb_S4x80x256_S1x80x256_3_0_0, shapeCast S1x80x256 (w 3) shapeCasts_S80x256_S1x80x256⟩,
       ⟨Rect.unit (s := S4x80x256) ![2, 0, 0] S1x80x256.size inb_S4x80x256_S1x80x256_2_0_0, shapeCast S1x80x256 (w 2) shapeCasts_S80x256_S1x80x256⟩,
       ⟨Rect.unit (s := S4x80x256) ![1, 0, 0] S1x80x256.size inb_S4x80x256_S1x80x256_1_0_0, shapeCast S1x80x256 (w 1) shapeCasts_S80x256_S1x80x256⟩,
       ⟨Rect.unit (s := S4x80x256) ![0, 0, 0] S1x80x256.size inb_S4x80x256_S1x80x256_0_0_0, shapeCast S1x80x256 (w 0) shapeCasts_S80x256_S1x80x256⟩]
      ∧ w 0 = headAcc (slotOf (arg12.view.read (Elt F) f12) 0) m (vChunk (arg11.view.read (Elt F) X_arg11) 0)
      ∧ ∀ h : Fin 4, h ≠ 0 → w h = acc (arg9.view.read (Elt F) X_arg9) (arg10.view.read (Elt F) X_arg10) (arg11.view.read (Elt F) X_arg11) (tl k) h) := by
  unfold trip_k0_t1
  dsimp only
  refine ⟨?_, ?_, ?_, ?_⟩
  · exact max0 arg9 X_arg9 arg10 X_arg10 k
  · exact congrArg (fun x => [(⟨Rect.unit (s := S1x2048x256) (k0_off6 k) S1x256x256.size (facts.k0_off6_inb k), x⟩ : View.Piece (Elt F) S1x2048x256 .bf16)]) (out0 arg13 f13)
  · exact hw32 arg9 X_arg9 arg10 X_arg10 k
  · refine ⟨fun h => if h = 0 then headAcc (slotOf (arg12.view.read (Elt F) f12) 0) m (vChunk (arg11.view.read (Elt F) X_arg11) 0)
      else acc (arg9.view.read (Elt F) X_arg9) (arg10.view.read (Elt F) X_arg10) (arg11.view.read (Elt F) X_arg11) (tl k) h, ?_, rfl, ?_⟩
    · rw [acc0, acc1, acc2, acc3]
      rfl
    · intro h hh; exact if_neg hh

variable (G8 : BufTy.Contents (Elt F) arg8.view.ty) (G12 : BufTy.Contents (Elt F) arg12.view.ty)
  (G13 : BufTy.Contents (Elt F) arg13.view.ty) (init : FVec F S1x256 .f32)

/-- One more trip keeps the invariant. -/
theorem inv_step (n : ℕ) (hn : n < 8) (m : FVec F S1x256 .f32) (f8 : BufTy.Contents (Elt F) arg8.view.ty)
    (f12 : BufTy.Contents (Elt F) arg12.view.ty) (f13 : BufTy.Contents (Elt F) arg13.view.ty)
    (h : Inv (arg9.view.read (Elt F) X_arg9) (arg10.view.read (Elt F) X_arg10) (arg11.view.read (Elt F) X_arg11) n m
      (arg8.view.read (Elt F) f8) (arg12.view.read (Elt F) f12) (arg13.view.read (Elt F) f13)) (k : Fin k0_t1_loop.trips) (hk : k.val = n) :
    (let T := trip_k0_t1 (F := F) 𝒱 c bd i arg1 harg1 arg2 harg2 arg3 harg3 arg4 harg4 arg5 harg5 arg6 harg6 arg7 harg7 arg8 harg8 arg9 harg9 arg10 harg10 arg11 harg11
      arg12 harg12 arg13 harg13 v2415 v2417 v2419 v2421 v2444 X_arg9 X_arg10 X_arg11 k
    Inv (arg9.view.read (Elt F) X_arg9) (arg10.view.read (Elt F) X_arg10) (arg11.view.read (Elt F) X_arg11) (n + 1) (T.1 m f8 f12 f13)
      (arg8.view.read (Elt F) (arg8.view.writes (Elt F) f8 (T.2.1 m f8 f12 f13)))
      (arg12.view.read (Elt F) (arg12.view.writes (Elt F) f12 (T.2.2.1 m f8 f12 f13)))
      (arg13.view.read (Elt F) (arg13.view.writes (Elt F) f13 (T.2.2.2.1 m f8 f12 f13)))) := by
  obtain ⟨e1, e2, e3, w, e4, e5, e6⟩ := trip_eq 𝒱 c bd i arg1 harg1 arg2 harg2 arg3 harg3 arg4 harg4 arg5 harg5 arg6 harg6 arg7 harg7 arg8 harg8 arg9 harg9 arg10 harg10 arg11 harg11
      arg12 harg12 arg13 harg13 v2415 v2417 v2419 v2421 v2444 X_arg9 X_arg10 X_arg11 k m f8 f12 f13
  have ht : tl k = tile n := Fin.ext (by show k.val = min n 7; omega)
  have hx : nx k = tile (n + 1) := Fin.ext (by show min (k.val + 1) 7 = min (n + 1) 7; omega)
  rw [hx] at e1 e3
  refine ⟨e1, ?_, fun _ => ?_, fun t ht' r d => ?_⟩
  · rw [e3]; exact slotOf_hit _ _ _ _ _ _ 0 (by rfl)
  · rw [e4, acc_stores]
    funext x
    by_cases hx0 : x = 0
    · subst hx0
      rw [e5, h.slot, h.max]; rfl
    · rw [e6 x hx0, ht]; rfl
  · rw [e2, out_store arg8 f8 _ _ _ (n - 1) (by rw [← hk]; exact off6 k)]
    split_ifs with hc
    · rw [h.acc (by omega)]
      have : t = tile (n - 1) := Fin.ext (by show t.val = min (n - 1) 7; omega)
      rw [this]; rfl
    · exact h.out t (by omega) r d

/-- The invariant before every trip. -/
theorem inv_all (h : Inv (arg9.view.read (Elt F) X_arg9) (arg10.view.read (Elt F) X_arg10) (arg11.view.read (Elt F) X_arg11) 0 init
      (arg8.view.read (Elt F) G8) (arg12.view.read (Elt F) G12) (arg13.view.read (Elt F) G13)) (n : ℕ) (hn : n ≤ 8) :
    (let s := st_k0_t1 (F := F) 𝒱 c bd i arg1 harg1 arg2 harg2 arg3 harg3 arg4 harg4 arg5 harg5 arg6 harg6 arg7 harg7 arg8 harg8 arg9 harg9 arg10 harg10 arg11 harg11
      arg12 harg12 arg13 harg13 v2415 v2417 v2419 v2421 v2444 X_arg9 X_arg10 X_arg11 G8 G12 G13 init n
    Inv (arg9.view.read (Elt F) X_arg9) (arg10.view.read (Elt F) X_arg10) (arg11.view.read (Elt F) X_arg11) n s.1
      (arg8.view.read (Elt F) (arg8.view.writes (Elt F) G8 s.2.1))
      (arg12.view.read (Elt F) (arg12.view.writes (Elt F) G12 s.2.2.1))
      (arg13.view.read (Elt F) (arg13.view.writes (Elt F) G13 s.2.2.2))) := by
  induction n with
  | zero => exact h
  | succ n ih =>
    have hk : n < k0_t1_loop.trips := by rw [trips_eq]; omega
    have e := st_k0_t1_succ (F := F) 𝒱 c bd i arg1 harg1 arg2 harg2 arg3 harg3 arg4 harg4 arg5 harg5 arg6 harg6 arg7 harg7 arg8 harg8 arg9 harg9 arg10 harg10 arg11 harg11
      arg12 harg12 arg13 harg13 v2415 v2417 v2419 v2421 v2444 X_arg9 X_arg10 X_arg11 G8 G12 G13 init ⟨n, hk⟩
    have := inv_step 𝒱 c bd i arg1 harg1 arg2 harg2 arg3 harg3 arg4 harg4 arg5 harg5 arg6 harg6 arg7 harg7 arg8 harg8 arg9 harg9 arg10 harg10 arg11 harg11
      arg12 harg12 arg13 harg13 v2415 v2417 v2419 v2421 v2444 X_arg9 X_arg10 X_arg11 n (by omega) _ _ _ _ (ih (by omega)) ⟨n, hk⟩ rfl
    dsimp only at this e ⊢
    rw [e]
    simp only [View.writes_append]
    exact this

end Loop

end Cert.Proof.Gqa
end
end
-- ==== Proof.GqaPrep.lean ====
/- The prepared queries, keys and values of the attention call, over the extended reals: what each of the three scratch arrays holds
   at a row and a column. -/
module

public import proofs.«01_k».proof.Proof.GqaTrip
public import proofs.«01_k».proof.Proof.RealFacts

@[expose] public section

set_option maxRecDepth 16384

noncomputable section

namespace Cert.Proof.Gqa

open Idealize.ShloMosaic Idealize.ShloMosaic.TcCoe
open Cert.KernelIdeal Cert.KernelIdeal.Gen

/-- The partner of a feature under the rotation: the sixteens of each half are swapped. -/
def sw (d : Fin 64) : Fin 64 :=
  if d.val < 16 then ⟨16 + d.val % 16, by omega⟩ else if d.val < 32 then ⟨d.val % 16, by omega⟩
  else if d.val < 48 then ⟨48 + d.val % 16, by omega⟩ else ⟨32 + d.val % 16, by omega⟩

theorem sw_val (d : Fin 64) : (sw d).val = if d.val % 32 < 16 then d.val + 16 else d.val - 16 := by
  unfold sw; split_ifs <;> (dsimp only; omega)

/-- The rotation of a head vector `x` at feature `d`, by the entries `c` and `s` of the tables. -/
def rot (x : Fin 64 → EReal) (c s : EReal) (d : Fin 64) : EReal := x d * c + x (sw d) * s

/-- The reciprocal root of a head vector's mean square. -/
def rms (x : Fin 64 → EReal) : EReal :=
  Ideal.rsqrt (Ideal.div (∑ k, x k * x k) (Ideal.ofBits .f32 0x42800000#32) + Ideal.ofBits .f32 0x358637BD#32)

/-- One prepared key entry. -/
def kv (x : Fin 64 → EReal) (c s : EReal) (d : Fin 64) : EReal := rot x c s d * rms x

/-- One prepared query entry. -/
def qv (x : Fin 64 → EReal) (c s : EReal) (d : Fin 64) : EReal :=
  rot x c s d * Named.named (F := Ideal) (φ := .f32) κ "q_scale" 0x3E38AA3B#32 * rms x

theorem q_first (x : Vec Ideal S1x256x128 .f32) (c s : Vec Ideal S1x64x256 .f32) (d : Fin 64) (r : Fin 256) :
    k0_pay111 (F := Ideal) x c s (ix3 0 d r) = qv (fun e => x (ix3 0 r ⟨e.val, by omega⟩)) (c (ix3 0 d r)) (s (ix3 0 d r)) d := by
  pointwise [k0_pay111, k0_pay110]
  unfold qv rot
  refine congrArg (fun z : EReal => (x (ix3 0 r ⟨d.val, by omega⟩) * c (ix3 0 d r) + z * s (ix3 0 d r))
    * Named.named (F := Ideal) (φ := .f32) κ "q_scale" 0x3E38AA3B#32 * rms (fun e => x (ix3 0 r ⟨e.val, by omega⟩))) ?_
  have hs := sw_val d
  by_cases hb : d.val % 32 < 16
  on_goal 1 => rw [if_pos hb] at hs
  on_goal 2 => rw [if_neg hb] at hs
  all_goals split_ifs
  all_goals first
    | (exfalso; omega)
    | (refine congrArg (fun e => x (ix3 0 r e)) (Fin.ext ?_); dsimp only; omega)

theorem q_second (x : Vec Ideal S1x256x128 .f32) (c s : Vec Ideal S1x64x256 .f32) (d : Fin 64) (r : Fin 256) :
    k0_pay113 (F := Ideal) (k0_pay110 x) c s (ix3 0 d r)
      = qv (fun e => x (ix3 0 r ⟨64 + e.val, by omega⟩)) (c (ix3 0 d r)) (s (ix3 0 d r)) d := by
  pointwise [k0_pay113, k0_pay110]
  unfold qv rot
  refine congrArg (fun z : EReal => (x (ix3 0 r ⟨64 + d.val, by omega⟩) * c (ix3 0 d r) + z * s (ix3 0 d r))
    * Named.named (F := Ideal) (φ := .f32) κ "q_scale" 0x3E38AA3B#32 * rms (fun e => x (ix3 0 r ⟨64 + e.val, by omega⟩))) ?_
  have hs := sw_val d
  by_cases hb : d.val % 32 < 16
  on_goal 1 => rw [if_pos hb] at hs
  on_goal 2 => rw [if_neg hb] at hs
  all_goals split_ifs
  all_goals first
    | (exfalso; omega)
    | (refine congrArg (fun e => x (ix3 0 r e)) (Fin.ext ?_); dsimp only; omega)

theorem q_zero (d : Fin 64) (r : Fin 256) : k0_pay112 (F := Ideal) k0_pay109 (ix3 0 d r) = 0 := by
  pointwise [k0_pay112, k0_pay109]
  try simp

theorem bits_64 : Ideal.ofBits .f32 0x42800000#32 = ((64 : ℝ) : EReal) := by
  simp [Ideal.ofBits, Ideal.ieee, -EReal.coe_mul]; norm_num

theorem bits_inv64 : Ideal.ofBits .f32 0x3C800000#32 = ((1 / 64 : ℝ) : EReal) := by
  simp [Ideal.ofBits, Ideal.ieee, -EReal.coe_mul]; norm_num

/-- The prepared key rows of one chunk. -/
def kP (x : Vec Ideal S1x256x128 .f32) (c s : Vec Ideal S256x128 .f32) : FVec Ideal S256x128 .bf16 :=
  k0_pay131 (k0_pay130 (k0_pay124 x) (k0_pay128 (k0_pay124 x) (k0_pay125 s) (k0_pay126 x c)
    (iota .tc S256x128 32 [1] iota_S256x128_d1_w32) 32#32 k0_pay127) k0_pay129 (iota .tc S128x128 32 [1] iota_S128x128_d1_w32) 64#32)

/-- Whether a lane belongs to the first sixteen of its half. -/
theorem first_half : ∀ e : Fin 128, (IntOp.cmpi CmpIPredicate.slt
            (Scalar.select
              (IntOp.andi
                (IntOp.xori
                  (IntOp.cmpi CmpIPredicate.slt
                    (IntOp.remsi ArithUnit.vector (BitVec.ofNat 32 ↑e)
                      (Scalar.select (Scalar.cmpi CmpIPredicate.eq 32#32 0#32) 1#32 32#32))
                    0#32)
                  (Scalar.cmpi CmpIPredicate.slt 32#32 0#32))
                (IntOp.cmpi CmpIPredicate.ne
                  (IntOp.remsi ArithUnit.vector (BitVec.ofNat 32 ↑e)
                    (Scalar.select (Scalar.cmpi CmpIPredicate.eq 32#32 0#32) 1#32 32#32))
                  0#32))
              (IntOp.addi
                (IntOp.remsi ArithUnit.vector (BitVec.ofNat 32 ↑e)
                  (Scalar.select (Scalar.cmpi CmpIPredicate.eq 32#32 0#32) 1#32 32#32))
                32#32)
              (IntOp.remsi ArithUnit.vector (BitVec.ofNat 32 ↑e)
                (Scalar.select (Scalar.cmpi CmpIPredicate.eq 32#32 0#32) 1#32 32#32)))
            16#32) = if e.val % 32 < 16 then 1#1 else 0#1 := by decide +kernel

/-- The quotient of a lane by 64, as the program computes it. -/
theorem lane_seg : ∀ x_1 : Fin 128, (Scalar.select
                      (IntOp.andi
                        (IntOp.cmpi CmpIPredicate.ne
                          (IntOp.subi (BitVec.setWidth 32 (IntOp.cmpi CmpIPredicate.sgt (BitVec.ofNat 32 ↑x_1) 0#32))
                            (BitVec.setWidth 32 (IntOp.cmpi CmpIPredicate.slt (BitVec.ofNat 32 ↑x_1) 0#32)))
                          (Scalar.subi (Scalar.extui (Scalar.cmpi CmpIPredicate.sgt 64#32 0#32))
                            (Scalar.extui (Scalar.cmpi CmpIPredicate.slt 64#32 0#32))))
                        (IntOp.cmpi CmpIPredicate.ne (IntOp.remsi ArithUnit.vector (BitVec.ofNat 32 ↑x_1) 64#32) 0#32))
                      (IntOp.subi (IntOp.divsi ArithUnit.vector (BitVec.ofNat 32 ↑x_1) 64#32) 1#32)
                      (IntOp.divsi ArithUnit.vector (BitVec.ofNat 32 ↑x_1) 64#32)) = BitVec.ofNat 32 (x_1.val / 64) := by decide +kernel

theorem seg_eq : ∀ a b : Fin 2, IntOp.cmpi CmpIPredicate.eq (BitVec.ofNat 32 a.val) (BitVec.ofNat 32 b.val) = if a = b then 1#1 else 0#1 := by decide +kernel

/-- A sum over the lanes of one segment of 64. -/
theorem seg_sum (f : Fin 128 → EReal) (e : Fin 128) :
    ∑ k : Fin 128, Scalar.select (IntOp.cmpi CmpIPredicate.eq (BitVec.ofNat 32 (k.val / 64)) (BitVec.ofNat 32 (e.val / 64))) (f k) 0
      = ∑ k : Fin 64, f ⟨64 * (e.val / 64) + k.val, by omega⟩ := by
  have h : ∀ k : Fin 128, Scalar.select (IntOp.cmpi CmpIPredicate.eq (BitVec.ofNat 32 (k.val / 64)) (BitVec.ofNat 32 (e.val / 64))) (f k) 0
      = if k.val / 64 = e.val / 64 then f k else 0 := fun k => by
    have := seg_eq ⟨k.val / 64, by omega⟩ ⟨e.val / 64, by omega⟩
    simp only [Fin.mk.injEq] at this
    rw [this]
    split <;> rfl
  rw [Finset.sum_congr rfl fun k _ => h k, ← Finset.sum_filter]
  refine (Finset.sum_bij (fun (k : Fin 64) _ => (⟨64 * (e.val / 64) + k.val, by omega⟩ : Fin 128)) ?_ ?_ ?_ ?_).symm
  · intro k _; rw [Finset.mem_filter]; exact ⟨Finset.mem_univ _, by show (64 * (e.val / 64) + k.val) / 64 = _; omega⟩
  · intro a _ b _ h; have := congrArg Fin.val h; exact Fin.ext (by simp only [] at this; omega)
  · intro b hb; rw [Finset.mem_filter] at hb
    exact ⟨⟨b.val % 64, by omega⟩, Finset.mem_univ _, Fin.ext (by have := hb.2; simp only []; omega)⟩
  · intro k _; rfl

theorem kP_apply (x : Vec Ideal S1x256x128 .f32) (c s : Vec Ideal S256x128 .f32) (r : Fin 256) (e : Fin 128)
    (hx : ∀ k, ∃ y : ℝ, x (ix3 0 r k) = (y : EReal)) :
    kP x c s (ix2 r e) = kv (fun k => x (ix3 0 r ⟨64 * (e.val / 64) + k.val, by omega⟩)) (c (ix2 r e)) (s (ix2 r e)) ⟨e.val % 64, by omega⟩ := by
  unfold kP
  pointwise [k0_pay131, k0_pay130, k0_pay129, k0_pay128, k0_pay124, k0_pay125, k0_pay126, k0_pay127]
  simp only [lane_seg, first_half, seg_sum]
  have h0 : ∀ k, x (ix3 0 r k) * x (ix3 0 r k) - x (ix3 0 r k) * x (ix3 0 r k) = 0 := fun k => by
    obtain ⟨y, hy⟩ := hx k
    rw [hy, ← EReal.coe_mul, ← EReal.coe_sub, sub_self, EReal.coe_zero]
  simp only [h0, Finset.sum_const_zero, add_zero, bits_inv64]
  unfold kv rot rms
  have hd : ∀ z : EReal, z * ((1 / 64 : ℝ) : EReal) = Ideal.div z (Ideal.ofBits .f32 0x42800000#32) := fun z => by
    rw [bits_64]; unfold Ideal.div
    rw [if_neg (by norm_num), ← EReal.coe_inv]; norm_num
  rw [hd]
  refine congrArg₂ (fun a b => (a * _ + b * _) * _) ?_ ?_
  · exact congrArg (fun e => x (ix3 0 r e)) (Fin.ext (by simp only []; omega))
  · have hs := sw_val ⟨e.val % 64, by omega⟩
    dsimp only at hs
    by_cases h : e.val % 32 < 16
    · rw [if_pos h]; rw [if_pos (by omega)] at hs
      refine congrArg (fun e => x (ix3 0 r e)) (Fin.ext ?_)
      dsimp only; rw [hs]; omega
    · rw [if_neg h]; rw [if_neg (by omega)] at hs
      refine congrArg (fun e => x (ix3 0 r e)) (Fin.ext ?_)
      dsimp only; rw [hs]; omega

theorem v_first (x : Vec Ideal S1x256x128 .f32)  (d : Fin 64) (r : Fin 256) :
    k0_pay133 (F := Ideal) x (ix4 0 0 d r) = x (ix3 0 r ⟨d.val, by omega⟩) := by
  pointwise [k0_pay133, k0_pay132]
  done
theorem v_second (x : Vec Ideal S1x256x128 .f32)  (d : Fin 64) (r : Fin 256) :
    k0_pay135 (F := Ideal) x (ix4 0 0 d r) = x (ix3 0 r ⟨64 + d.val, by omega⟩) := by
  pointwise [k0_pay135, k0_pay132]
  done
theorem v_ones  (d : Fin 16) (r : Fin 256) :
    k0_pay134 (F := Ideal) (ix4 0 0 d r) = if d.val = 0 then 1 else 0 := by
  pointwise [k0_pay134]
  revert d
  have : ∀ d : Fin 16, IntOp.cmpi CmpIPredicate.eq (BitVec.ofNat 32 d.val) 0#32 = if d.val = 0 then 1#1 else 0#1 := by decide +kernel
  intro d; rw [this]; split <;> rfl

/-! ## The three arrays -/

/-- The prepared query of tile `t`, head `h`, at lane `e` and query `r`: its own half carries the rotated and normed head, the other half is zero. -/
def qEnt (x0 : S1x2048x256.Idx → EReal) (x3 x4 : S8x128x256.Idx → EReal) (t : Fin 8) (h : Fin 4) (e : Fin 128) (r : Fin 256) : EReal :=
  if e.val / 64 = h.val / 2 then
    qv (fun k => x0 (ix3 (0 : Fin 1) (⟨256 * t.val + r.val, by omega⟩ : Fin 2048) (⟨64 * h.val + k.val, by omega⟩ : Fin 256)))
      (x3 (ix3 t (⟨64 * (h.val % 2) + e.val % 64, by omega⟩ : Fin 128) r)) (x4 (ix3 t (⟨64 * (h.val % 2) + e.val % 64, by omega⟩ : Fin 128) r))
      ⟨e.val % 64, by omega⟩
  else 0

def qArr (x0 : S1x2048x256.Idx → EReal) (x3 x4 : S8x128x256.Idx → EReal) (y : S8x512x256.Idx) : EReal :=
  have h : (y 1).val < 512 := (y 1).isLt
  qEnt x0 x3 x4 (y 0 : Fin 8) ⟨(y 1).val / 128, by omega⟩ ⟨(y 1).val % 128, by omega⟩ (y 2 : Fin 256)

/-- The prepared key at position `s` and lane `e`. -/
def kEnt (x1 : S1x2048x128.Idx → EReal) (x5 x6 : S2048x128.Idx → EReal) (s : Fin 2048) (e : Fin 128) : EReal :=
  kv (fun k => x1 (ix3 (0 : Fin 1) s (⟨64 * (e.val / 64) + k.val, by omega⟩ : Fin 128))) (x5 (ix2 s e)) (x6 (ix2 s e)) ⟨e.val % 64, by omega⟩

def kArr (x1 : S1x2048x128.Idx → EReal) (x5 x6 : S2048x128.Idx → EReal) (y : S2048x128.Idx) : EReal :=
  kEnt x1 x5 x6 (y 0 : Fin 2048) (y 1 : Fin 128)

/-- The value rows: the transposed values, a row of ones and fifteen rows of zeros. -/
def vEnt (x2 : S1x2048x128.Idx → EReal) (g : Fin 2) (c : Fin 8) (d : Fin 80) (r : Fin 256) : EReal :=
  if h : d.val < 64 then x2 (ix3 (0 : Fin 1) (⟨256 * c.val + r.val, by omega⟩ : Fin 2048) (⟨64 * g.val + d.val, by omega⟩ : Fin 128))
  else if d.val = 64 then 1 else 0

def vArr (x2 : S1x2048x128.Idx → EReal) (y : S2x8x80x256.Idx) : EReal :=
  vEnt x2 (y 0 : Fin 2) (y 1 : Fin 8) (y 2 : Fin 80) (y 3 : Fin 256)

/-! ## The stores into them -/

section
variable (x0 : Vec Ideal S1x2048x256 .f32) (x1 x2 : Vec Ideal S1x2048x128 .f32) (x3 x4 : Vec Ideal S8x128x256 .f32) (x5 x6 : Vec Ideal S2048x128 .f32)

theorem q_zero_at (o : Fin 3 → ℕ) (inb : ∀ x, o x + S1x64x256.size x ≤ S8x512x256.size x) (t : Fin 8) (h : Fin 4) (p : Fin 2)
    (hp : p.val ≠ h.val / 2) (ho : o = ![t.val, 128 * h.val + 64 * p.val, 0]) (x : S1x64x256.Idx) :
    k0_pay112 (F := Ideal) k0_pay109 x = qArr x0 x3 x4 ((Rect.unit (s := S8x512x256) o S1x64x256.size inb).emb x) := by
  obtain ⟨u, d, r, rfl⟩ : ∃ (u : Fin 1) (d : Fin 64) (r : Fin 256), x = ix3 u d r := ⟨_, _, _, eq_ix3 x⟩
  obtain rfl : u = 0 := Subsingleton.elim _ _
  subst ho
  rw [q_zero]
  unfold qArr qEnt
  refine (if_neg ?_).symm
  show ¬ ((128 * h.val + 64 * p.val + 1 * d.val) % 128 / 64 = (128 * h.val + 64 * p.val + 1 * d.val) / 128 / 2)
  rw [show (128 * h.val + 64 * p.val + 1 * d.val) / 128 = h.val from by omega, show (128 * h.val + 64 * p.val + 1 * d.val) % 128 / 64 = p.val from by omega]
  exact hp

/-- The prepared queries at a row of their own half. -/
theorem qArr_own (o : Fin 3 → ℕ) (inb : ∀ x, o x + S1x64x256.size x ≤ S8x512x256.size x) (t : Fin 8) (h : Fin 4)
    (ho : o = ![t.val, 128 * h.val + 64 * (h.val / 2), 0]) (d : Fin 64) (r : Fin 256) :
    qArr x0 x3 x4 ((Rect.unit (s := S8x512x256) o S1x64x256.size inb).emb (ix3 0 d r)) =
      qv (fun k => x0 (ix3 (0 : Fin 1) (⟨256 * t.val + r.val, by omega⟩ : Fin 2048) (⟨64 * h.val + k.val, by omega⟩ : Fin 256)))
        (x3 (ix3 t (⟨64 * (h.val % 2) + d.val, by omega⟩ : Fin 128) r)) (x4 (ix3 t (⟨64 * (h.val % 2) + d.val, by omega⟩ : Fin 128) r)) d := by
  subst ho
  rw [show (Rect.unit (s := S8x512x256) ![t.val, 128 * h.val + 64 * (h.val / 2), 0] S1x64x256.size inb).emb (ix3 0 d r)
      = ix3 t (⟨128 * h.val + 64 * (h.val / 2) + d.val, by omega⟩ : Fin 512) r from by
    funext x; apply Fin.ext; fin_cases x
    · show t.val + 1 * 0 = t.val; omega
    · show 128 * h.val + 64 * (h.val / 2) + 1 * d.val = _; rw [Nat.one_mul]; rfl
    · show 0 + 1 * r.val = r.val; omega]
  refine (show qArr x0 x3 x4 (ix3 t (⟨128 * h.val + 64 * (h.val / 2) + d.val, by omega⟩ : Fin 512) r)
      = qEnt x0 x3 x4 t h ⟨64 * (h.val / 2) + d.val, by omega⟩ r from
    congrArg₂ (fun a b => qEnt x0 x3 x4 t a b r)
      (Fin.ext (show (128 * h.val + 64 * (h.val / 2) + d.val) / 128 = h.val by omega))
      (Fin.ext (show (128 * h.val + 64 * (h.val / 2) + d.val) % 128 = 64 * (h.val / 2) + d.val by omega))).trans ?_
  unfold qEnt
  have e : (64 * (h.val / 2) + d.val) % 64 = d.val := by omega
  rw [if_pos (show (64 * (h.val / 2) + d.val) / 64 = h.val / 2 by omega)]
  simp only [e]

variable (a1 : Memref sig .tc .vmem S1x2048x256 .f32) (ha1 : a1.IsWhole) (a2 a3 : Memref sig .tc .vmem S1x2048x128 .f32) (ha2 : a2.IsWhole)
  (ha3 : a3.IsWhole) (a4 a5 : Memref sig .tc .vmem S8x128x256 .f32) (ha4 : a4.IsWhole) (ha5 : a5.IsWhole)
  (a6 a7 : Memref sig .tc .vmem S2048x128 .f32) (ha6 : a6.IsWhole) (ha7 : a7.IsWhole)

/-- A load of an input at a coordinate. -/
theorem rd {s : Shape} {e : EltTy} (a : Memref sig .tc .vmem s e) (ha : a.IsWhole) (x : Vec Ideal s e) (R : Rect s) (j : R.shape.Idx) :
    View.readAt (Elt Ideal) a.view R.toLoadRect (ha.unread x) j = x (R.emb j) := congrFun (ha.read_unread x) (R.emb j)

theorem q_first_at (o o1 o4 : Fin 3 → ℕ)
    (inb : ∀ x, o x + S1x64x256.size x ≤ S8x512x256.size x) (inb1 : ∀ x, o1 x + S1x256x128.size x ≤ S1x2048x256.size x)
    (inb4 : ∀ x, o4 x + S1x64x256.size x ≤ S8x128x256.size x) (t : Fin 8) (h : Fin 4) (hh : h.val % 2 = 0)
    (ho : o = ![t.val, 128 * h.val + 64 * (h.val / 2), 0]) (ho1 : o1 = ![0, 256 * t.val, 128 * (h.val / 2)]) (ho4 : o4 = ![t.val, 0, 0])
    (x : S1x64x256.Idx) :
    k0_pay111 (F := Ideal)
      (View.readAt (Elt Ideal) a1.view (Rect.unit (s := S1x2048x256) o1 S1x256x128.size inb1).toLoadRect (ha1.unread x0))
      (View.readAt (Elt Ideal) a4.view (Rect.unit (s := S8x128x256) o4 S1x64x256.size inb4).toLoadRect (ha4.unread x3))
      (View.readAt (Elt Ideal) a5.view (Rect.unit (s := S8x128x256) o4 S1x64x256.size inb4).toLoadRect (ha5.unread x4)) x
      = qArr x0 x3 x4 ((Rect.unit (s := S8x512x256) o S1x64x256.size inb).emb x) := by
  obtain ⟨u, d, r, rfl⟩ : ∃ (u : Fin 1) (d : Fin 64) (r : Fin 256), x = ix3 u d r := ⟨_, _, _, eq_ix3 x⟩
  obtain rfl : u = 0 := Subsingleton.elim _ _
  rw [q_first, qArr_own x0 x3 x4 o inb t h ho]
  subst ho1 ho4
  have e3 : (Rect.unit (s := S8x128x256) ![t.val, 0, 0] S1x64x256.size inb4).emb (ix3 0 d r)
      = ix3 t (⟨64 * (h.val % 2) + d.val, by omega⟩ : Fin 128) r := by
    funext x; apply Fin.ext; fin_cases x
    · show t.val + 1 * 0 = t.val; omega
    · show 0 + 1 * d.val = 64 * (h.val % 2) + d.val; omega
    · show 0 + 1 * r.val = r.val; omega
  have e1 : ∀ k : Fin 64, (Rect.unit (s := S1x2048x256) ![0, 256 * t.val, 128 * (h.val / 2)] S1x256x128.size inb1).emb (ix3 0 r ⟨k.val, by omega⟩)
      = ix3 (0 : Fin 1) (⟨256 * t.val + r.val, by omega⟩ : Fin 2048) (⟨64 * h.val + k.val, by omega⟩ : Fin 256) := fun k => by
    funext x; apply Fin.ext; fin_cases x
    · rfl
    · show 256 * t.val + 1 * r.val = 256 * t.val + r.val; omega
    · show 128 * (h.val / 2) + 1 * k.val = 64 * h.val + k.val; omega
  refine congr (congr (congrArg₂ qv (funext fun k => ?_) ?_) ?_) rfl
  · exact (rd a1 ha1 x0 _ _).trans (congrArg x0 (e1 k))
  · exact (rd a4 ha4 x3 _ _).trans (congrArg x3 e3)
  · exact (rd a5 ha5 x4 _ _).trans (congrArg x4 e3)

theorem q_second_at (o o1 o4 : Fin 3 → ℕ)
    (inb : ∀ x, o x + S1x64x256.size x ≤ S8x512x256.size x) (inb1 : ∀ x, o1 x + S1x256x128.size x ≤ S1x2048x256.size x)
    (inb4 : ∀ x, o4 x + S1x64x256.size x ≤ S8x128x256.size x) (t : Fin 8) (h : Fin 4) (hh : h.val % 2 = 1)
    (ho : o = ![t.val, 128 * h.val + 64 * (h.val / 2), 0]) (ho1 : o1 = ![0, 256 * t.val, 128 * (h.val / 2)]) (ho4 : o4 = ![t.val, 64, 0])
    (x : S1x64x256.Idx) :
    k0_pay113 (F := Ideal)
      (k0_pay110 (View.readAt (Elt Ideal) a1.view (Rect.unit (s := S1x2048x256) o1 S1x256x128.size inb1).toLoadRect (ha1.unread x0)))
      (View.readAt (Elt Ideal) a4.view (Rect.unit (s := S8x128x256) o4 S1x64x256.size inb4).toLoadRect (ha4.unread x3))
      (View.readAt (Elt Ideal) a5.view (Rect.unit (s := S8x128x256) o4 S1x64x256.size inb4).toLoadRect (ha5.unread x4)) x
      = qArr x0 x3 x4 ((Rect.unit (s := S8x512x256) o S1x64x256.size inb).emb x) := by
  obtain ⟨u, d, r, rfl⟩ : ∃ (u : Fin 1) (d : Fin 64) (r : Fin 256), x = ix3 u d r := ⟨_, _, _, eq_ix3 x⟩
  obtain rfl : u = 0 := Subsingleton.elim _ _
  rw [q_second, qArr_own x0 x3 x4 o inb t h ho]
  subst ho1 ho4
  have e3 : (Rect.unit (s := S8x128x256) ![t.val, 64, 0] S1x64x256.size inb4).emb (ix3 0 d r)
      = ix3 t (⟨64 * (h.val % 2) + d.val, by omega⟩ : Fin 128) r := by
    funext x; apply Fin.ext; fin_cases x
    · show t.val + 1 * 0 = t.val; omega
    · show 64 + 1 * d.val = 64 * (h.val % 2) + d.val; omega
    · show 0 + 1 * r.val = r.val; omega
  have e1 : ∀ k : Fin 64, (Rect.unit (s := S1x2048x256) ![0, 256 * t.val, 128 * (h.val / 2)] S1x256x128.size inb1).emb (ix3 0 r ⟨64 + k.val, by omega⟩)
      = ix3 (0 : Fin 1) (⟨256 * t.val + r.val, by omega⟩ : Fin 2048) (⟨64 * h.val + k.val, by omega⟩ : Fin 256) := fun k => by
    funext x; apply Fin.ext; fin_cases x
    · rfl
    · show 256 * t.val + 1 * r.val = 256 * t.val + r.val; omega
    · show 128 * (h.val / 2) + 1 * (64 + k.val) = 64 * h.val + k.val; omega
  refine congr (congr (congrArg₂ qv (funext fun k => ?_) ?_) ?_) rfl
  · exact (rd a1 ha1 x0 _ _).trans (congrArg x0 (e1 k))
  · exact (rd a4 ha4 x3 _ _).trans (congrArg x3 e3)
  · exact (rd a5 ha5 x4 _ _).trans (congrArg x4 e3)

theorem k_at (hx : ∀ s k, ∃ y : ℝ, x1 (ix3 0 s k) = (y : EReal)) (o : Fin 2 → ℕ) (o2 : Fin 3 → ℕ)
    (inb : ∀ x, o x + S256x128.size x ≤ S2048x128.size x) (inb2 : ∀ x, o2 x + S1x256x128.size x ≤ S1x2048x128.size x)
    (c : Fin 8) (ho : o = ![256 * c.val, 0]) (ho2 : o2 = ![0, 256 * c.val, 0]) (x : S256x128.Idx) :
    kP (View.readAt (Elt Ideal) a2.view (Rect.unit (s := S1x2048x128) o2 S1x256x128.size inb2).toLoadRect (ha2.unread x1))
      (View.readAt (Elt Ideal) a6.view (Rect.unit (s := S2048x128) o S256x128.size inb).toLoadRect (ha6.unread x5))
      (View.readAt (Elt Ideal) a7.view (Rect.unit (s := S2048x128) o S256x128.size inb).toLoadRect (ha7.unread x6)) x
      = kArr x1 x5 x6 ((Rect.unit (s := S2048x128) o S256x128.size inb).emb x) := by
  obtain ⟨r, e, rfl⟩ : ∃ (r : Fin 256) (e : Fin 128), x = ix2 r e := ⟨_, _, eq_ix2 x⟩
  subst ho ho2
  have e5 : (Rect.unit (s := S2048x128) ![256 * c.val, 0] S256x128.size inb).emb (ix2 r e) = ix2 (⟨256 * c.val + r.val, by omega⟩ : Fin 2048) e := by
    funext x; apply Fin.ext; fin_cases x
    · show 256 * c.val + 1 * r.val = 256 * c.val + r.val; omega
    · show 0 + 1 * e.val = e.val; omega
  have e2 : ∀ k : Fin 128, (Rect.unit (s := S1x2048x128) ![0, 256 * c.val, 0] S1x256x128.size inb2).emb (ix3 0 r k)
      = ix3 (0 : Fin 1) (⟨256 * c.val + r.val, by omega⟩ : Fin 2048) k := fun k => by
    funext x; apply Fin.ext; fin_cases x
    · rfl
    · show 256 * c.val + 1 * r.val = 256 * c.val + r.val; omega
    · show 0 + 1 * k.val = k.val; omega
  have r2 := fun k => (rd a2 ha2 x1 (Rect.unit (s := S1x2048x128) ![0, 256 * c.val, 0] S1x256x128.size inb2) (ix3 0 r k)).trans (congrArg x1 (e2 k))
  rw [kP_apply _ _ _ _ _ (fun k => by obtain ⟨y, hy⟩ := hx (⟨256 * c.val + r.val, by omega⟩ : Fin 2048) k; exact ⟨y, (r2 k).trans hy⟩), e5]
  refine congr (congr (congrArg₂ kv (funext fun k => r2 _) ?_) ?_) rfl
  · exact (rd a6 ha6 x5 _ _).trans (congrArg x5 e5)
  · exact (rd a7 ha7 x6 _ _).trans (congrArg x6 e5)

theorem v_first_at (o : Fin 4 → ℕ) (o2 : Fin 3 → ℕ)
    (inb : ∀ x, o x + S1x1x64x256.size x ≤ S2x8x80x256.size x) (inb2 : ∀ x, o2 x + S1x256x128.size x ≤ S1x2048x128.size x)
    (c : Fin 8) (ho : o = ![0, c.val, 0, 0]) (ho2 : o2 = ![0, 256 * c.val, 0]) (x : S1x1x64x256.Idx) :
    k0_pay133 (F := Ideal) (View.readAt (Elt Ideal) a3.view (Rect.unit (s := S1x2048x128) o2 S1x256x128.size inb2).toLoadRect (ha3.unread x2)) x
      = vArr x2 ((Rect.unit (s := S2x8x80x256) o S1x1x64x256.size inb).emb x) := by
  obtain ⟨u, v, d, r, rfl⟩ : ∃ (u v : Fin 1) (d : Fin 64) (r : Fin 256), x = ix4 u v d r := ⟨_, _, _, _, eq_ix4 x⟩
  obtain rfl : u = 0 := Subsingleton.elim _ _
  obtain rfl : v = 0 := Subsingleton.elim _ _
  subst ho ho2
  rw [v_first, show (Rect.unit (s := S2x8x80x256) ![0, c.val, 0, 0] S1x1x64x256.size inb).emb (ix4 0 0 d r) = ix4 (0 : Fin 2) c (⟨d.val, by omega⟩ : Fin 80) r from by
    funext x; apply Fin.ext; fin_cases x
    · rfl
    · show c.val + 1 * 0 = c.val; omega
    · show 0 + 1 * d.val = d.val; omega
    · show 0 + 1 * r.val = r.val; omega]
  unfold vArr vEnt
  refine Eq.trans ?_ (dif_pos (show d.val < 64 from d.isLt)).symm
  refine (rd a3 ha3 x2 _ _).trans (congrArg x2 ?_)
  funext x; apply Fin.ext; fin_cases x
  · rfl
  · show 256 * c.val + 1 * r.val = 256 * c.val + r.val; omega
  · show 0 + 1 * d.val = 64 * 0 + d.val; omega

theorem v_second_at (o : Fin 4 → ℕ) (o2 : Fin 3 → ℕ)
    (inb : ∀ x, o x + S1x1x64x256.size x ≤ S2x8x80x256.size x) (inb2 : ∀ x, o2 x + S1x256x128.size x ≤ S1x2048x128.size x)
    (c : Fin 8) (ho : o = ![1, c.val, 0, 0]) (ho2 : o2 = ![0, 256 * c.val, 0]) (x : S1x1x64x256.Idx) :
    k0_pay135 (F := Ideal) (View.readAt (Elt Ideal) a3.view (Rect.unit (s := S1x2048x128) o2 S1x256x128.size inb2).toLoadRect (ha3.unread x2)) x
      = vArr x2 ((Rect.unit (s := S2x8x80x256) o S1x1x64x256.size inb).emb x) := by
  obtain ⟨u, v, d, r, rfl⟩ : ∃ (u v : Fin 1) (d : Fin 64) (r : Fin 256), x = ix4 u v d r := ⟨_, _, _, _, eq_ix4 x⟩
  obtain rfl : u = 0 := Subsingleton.elim _ _
  obtain rfl : v = 0 := Subsingleton.elim _ _
  subst ho ho2
  rw [v_second, show (Rect.unit (s := S2x8x80x256) ![1, c.val, 0, 0] S1x1x64x256.size inb).emb (ix4 0 0 d r) = ix4 (1 : Fin 2) c (⟨d.val, by omega⟩ : Fin 80) r from by
    funext x; apply Fin.ext; fin_cases x
    · rfl
    · show c.val + 1 * 0 = c.val; omega
    · show 0 + 1 * d.val = d.val; omega
    · show 0 + 1 * r.val = r.val; omega]
  unfold vArr vEnt
  refine Eq.trans ?_ (dif_pos (show d.val < 64 from d.isLt)).symm
  refine (rd a3 ha3 x2 _ _).trans (congrArg x2 ?_)
  funext x; apply Fin.ext; fin_cases x
  · rfl
  · show 256 * c.val + 1 * r.val = 256 * c.val + r.val; omega
  · show 0 + 1 * (64 + d.val) = 64 * 1 + d.val; omega

theorem v_ones_at (o : Fin 4 → ℕ) (inb : ∀ x, o x + S1x1x16x256.size x ≤ S2x8x80x256.size x)
    (g : Fin 2) (c : Fin 8) (ho : o = ![g.val, c.val, 64, 0]) (x : S1x1x16x256.Idx) :
    k0_pay134 (F := Ideal) x = vArr x2 ((Rect.unit (s := S2x8x80x256) o S1x1x16x256.size inb).emb x) := by
  obtain ⟨u, v, d, r, rfl⟩ : ∃ (u v : Fin 1) (d : Fin 16) (r : Fin 256), x = ix4 u v d r := ⟨_, _, _, _, eq_ix4 x⟩
  obtain rfl : u = 0 := Subsingleton.elim _ _
  obtain rfl : v = 0 := Subsingleton.elim _ _
  subst ho
  rw [v_ones, show (Rect.unit (s := S2x8x80x256) ![g.val, c.val, 64, 0] S1x1x16x256.size inb).emb (ix4 0 0 d r) = ix4 g c (⟨64 + d.val, by omega⟩ : Fin 80) r from by
    funext x; apply Fin.ext; fin_cases x
    · show g.val + 1 * 0 = g.val; omega
    · show c.val + 1 * 0 = c.val; omega
    · show 64 + 1 * d.val = 64 + d.val; omega
    · show 0 + 1 * r.val = r.val; omega]
  unfold vArr vEnt
  refine Eq.trans ?_ (dif_neg (show ¬ (64 + d.val < 64) by omega)).symm
  show _ = if 64 + d.val = 64 then (1 : EReal) else 0
  by_cases h : d.val = 0
  · rw [if_pos h, if_pos (by omega)]
  · rw [if_neg h, if_neg (by omega)]
end

end Cert.Proof.Gqa
-- ==== Proof.GqaBody.lean ====
/- The attention call's body over the extended reals: run once at symbolic operands, it leaves in the output block, tile by tile, the
   softmax of the prepared queries and keys over the prepared values. -/
module

public import proofs.«01_k».proof.Proof.Gen.KernelIdeal.Frame
public import proofs.«01_k».proof.Proof.Gen.KernelIdeal.Loops
public import proofs.«01_k».proof.Proof.GqaPrep
public import Idealize.ShloMosaic.Lib.Ring

@[expose] public section

set_option maxRecDepth 16384

noncomputable section

namespace Cert.Proof.Gqa

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The output block of prepared queries, keys and values. -/
def outOf (Q : S8x512x256.Idx → Elt Ideal .bf16) (K : S2048x128.Idx → Elt Ideal .bf16) (W : S2x8x80x256.Idx → Elt Ideal .bf16) : Vec Ideal S1x2048x256 .bf16 := fun y =>
  have h : (y 1).val < 2048 := (y 1).isLt
  out (F := Ideal) Q K W ⟨(y 1).val / 256, by omega⟩ (ix3 (0 : Fin 1) (⟨(y 1).val % 256, by omega⟩ : Fin 256) (y 2 : Fin 256))

/-- The output block, from the seven input blocks. -/
def outArr (x0 : Vec Ideal S1x2048x256 .f32) (x1 x2 : Vec Ideal S1x2048x128 .f32) (x3 x4 : Vec Ideal S8x128x256 .f32)
    (x5 x6 : Vec Ideal S2048x128 .f32) : Vec Ideal S1x2048x256 .bf16 := outOf (qArr x0 x3 x4) (kArr x1 x5 x6) (vArr x2)

section Fin

variable (c : Dev nD) (i : grid0.Coords) (arg1 : Memref sig .tc .vmem S1x2048x256 .f32)
  (harg1 : arg1.IsWhole) (arg2 : Memref sig .tc .vmem S1x2048x128 .f32) (harg2 : arg2.IsWhole)
  (arg3 : Memref sig .tc .vmem S1x2048x128 .f32) (harg3 : arg3.IsWhole) (arg4 : Memref sig .tc .vmem S8x128x256 .f32)
  (harg4 : arg4.IsWhole) (arg5 : Memref sig .tc .vmem S8x128x256 .f32) (harg5 : arg5.IsWhole)
  (arg6 : Memref sig .tc .vmem S2048x128 .f32) (harg6 : arg6.IsWhole) (arg7 : Memref sig .tc .vmem S2048x128 .f32)
  (harg7 : arg7.IsWhole) (arg8 : Memref sig .tc .vmem S1x2048x256 .bf16) (harg8 : arg8.IsWhole)
  (arg9 : Memref sig .tc .vmem S8x512x256 .bf16) (harg9 : arg9.IsWhole) (arg10 : Memref sig .tc .vmem S2048x128 .bf16)
  (harg10 : arg10.IsWhole) (arg11 : Memref sig .tc .vmem S2x8x80x256 .bf16) (harg11 : arg11.IsWhole)
  (arg12 : Memref sig .tc .vmem S2x2048x256 .f32) (harg12 : arg12.IsWhole) (arg13 : Memref sig .tc .vmem S4x80x256 .f32)
  (harg13 : arg13.IsWhole) (X9 : BufTy.Contents (Elt Ideal) arg9.view.ty)
  (X10 : BufTy.Contents (Elt Ideal) arg10.view.ty) (X11 : BufTy.Contents (Elt Ideal) arg11.view.ty)
  (f7 : BufTy.Contents (Elt Ideal) arg8.view.ty) (f11 : BufTy.Contents (Elt Ideal) arg12.view.ty)
  (L13 : List (View.Piece (Elt Ideal) S4x80x256 .f32)) (s0 s1 s2 s3 s4 s5 s6 s7 : FVec Ideal S256x256 .f32)

/-- The loop's state at its end. -/
noncomputable abbrev fin := st_k0_t1 (F := Ideal) Variants.none c none i arg1 harg1 arg2 harg2 arg3 harg3 arg4 harg4 arg5 harg5 arg6 harg6 arg7 harg7 arg8 harg8 arg9 harg9
    arg10 harg10 arg11 harg11 arg12 harg12 arg13 harg13 s4 s5 s6 s7 (k0_pay347 s0 s1 s2 s3) X9 X10 X11 f7
    (arg12.view.writes (Elt Ideal) f11 (slotPieces 0 (by decide) ![s0, s1, s2, s3, s4, s5, s6, s7] ++ []))
    (arg13.view.writes (Elt Ideal) arg13.view.junk L13) (k0_pay352 s4 s5 s6 s7 (k0_pay347 s0 s1 s2 s3)) (Scf.trips k0_t1_loop.lb k0_t1_loop.ub k0_t1_loop.st)

/-- An accumulator read after the loop. -/
noncomputable abbrev finAcc (h : ℕ) (inb : ∀ x, (![h, 0, 0] : Fin 3 → ℕ) x + S1x80x256.size x ≤ S4x80x256.size x) :=
  arg13.view.readCov ((fin c i arg1 harg1 arg2 harg2 arg3 harg3 arg4 harg4 arg5 harg5 arg6 harg6 arg7 harg7 arg8 harg8 arg9 harg9
    arg10 harg10 arg11 harg11 arg12 harg12 arg13 harg13 X9 X10 X11 f7 f11 L13 s0 s1 s2 s3 s4 s5 s6 s7).2.2.2 ++ L13)
    (Rect.unit (s := S4x80x256) ![h, 0, 0] S1x80x256.size inb).toLoadRect

/-- The output block after the last tile's store. -/
theorem fin_out (hs : (![s0, s1, s2, s3, s4, s5, s6, s7] : Fin 8 → FVec Ideal S256x256 .f32) = S (arg9.view.read (Elt Ideal) X9) (arg10.view.read (Elt Ideal) X10) 0 0)
    (y : S1x2048x256.Idx) :
    arg8.view.read (Elt Ideal) (arg8.view.writes (Elt Ideal) f7
      (⟨Rect.unit (s := S1x2048x256) ![0, 1792, 0] S1x256x256.size inb_S1x2048x256_S1x256x256_0_1792_0,
        k0_pay1 (k0_pay354 (finAcc c i arg1 harg1 arg2 harg2 arg3 harg3 arg4 harg4 arg5 harg5 arg6 harg6 arg7 harg7 arg8 harg8 arg9 harg9
    arg10 harg10 arg11 harg11 arg12 harg12 arg13 harg13 X9 X10 X11 f7 f11 L13 s0 s1 s2 s3 s4 s5 s6 s7 0 inb_S4x80x256_S1x80x256_0_0_0))
    (k0_pay355 (finAcc c i arg1 harg1 arg2 harg2 arg3 harg3 arg4 harg4 arg5 harg5 arg6 harg6 arg7 harg7 arg8 harg8 arg9 harg9
    arg10 harg10 arg11 harg11 arg12 harg12 arg13 harg13 X9 X10 X11 f7 f11 L13 s0 s1 s2 s3 s4 s5 s6 s7 1 inb_S4x80x256_S1x80x256_1_0_0))
    (finAcc c i arg1 harg1 arg2 harg2 arg3 harg3 arg4 harg4 arg5 harg5 arg6 harg6 arg7 harg7 arg8 harg8 arg9 harg9
    arg10 harg10 arg11 harg11 arg12 harg12 arg13 harg13 X9 X10 X11 f7 f11 L13 s0 s1 s2 s3 s4 s5 s6 s7 2 inb_S4x80x256_S1x80x256_2_0_0)
    (finAcc c i arg1 harg1 arg2 harg2 arg3 harg3 arg4 harg4 arg5 harg5 arg6 harg6 arg7 harg7 arg8 harg8 arg9 harg9
    arg10 harg10 arg11 harg11 arg12 harg12 arg13 harg13 X9 X10 X11 f7 f11 L13 s0 s1 s2 s3 s4 s5 s6 s7 3 inb_S4x80x256_S1x80x256_3_0_0)⟩ ::
      (fin c i arg1 harg1 arg2 harg2 arg3 harg3 arg4 harg4 arg5 harg5 arg6 harg6 arg7 harg7 arg8 harg8 arg9 harg9
    arg10 harg10 arg11 harg11 arg12 harg12 arg13 harg13 X9 X10 X11 f7 f11 L13 s0 s1 s2 s3 s4 s5 s6 s7).2.1)) y
      = outOf (arg9.view.read (Elt Ideal) X9) (arg10.view.read (Elt Ideal) X10) (arg11.view.read (Elt Ideal) X11) y := by
  have hm : k0_pay352 s4 s5 s6 s7 (k0_pay347 s0 s1 s2 s3) = colMax (S (arg9.view.read (Elt Ideal) X9) (arg10.view.read (Elt Ideal) X10) 0 0) :=
    (show k0_pay352 s4 s5 s6 s7 (k0_pay347 s0 s1 s2 s3) = colMax ![s0, s1, s2, s3, s4, s5, s6, s7] from rfl).trans (congrArg colMax hs)
  have h0 : Inv (arg9.view.read (Elt Ideal) X9) (arg10.view.read (Elt Ideal) X10) (arg11.view.read (Elt Ideal) X11) 0 (k0_pay352 s4 s5 s6 s7 (k0_pay347 s0 s1 s2 s3))
      (arg8.view.read (Elt Ideal) f7) (arg12.view.read (Elt Ideal) (arg12.view.writes (Elt Ideal) f11 (slotPieces 0 (by decide) ![s0, s1, s2, s3, s4, s5, s6, s7] ++ [])))
      (arg13.view.read (Elt Ideal) (arg13.view.writes (Elt Ideal) arg13.view.junk L13)) :=
    ⟨hm, (slotOf_hit _ _ _ _ _ _ 0 (by rfl)).trans hs, fun h => absurd h (by decide), fun t h => absurd h (by omega)⟩
  have h8 := inv_all Variants.none c none i arg1 harg1 arg2 harg2 arg3 harg3 arg4 harg4 arg5 harg5 arg6 harg6 arg7 harg7 arg8 harg8 arg9 harg9
    arg10 harg10 arg11 harg11 arg12 harg12 arg13 harg13 s4 s5 s6 s7 (k0_pay347 s0 s1 s2 s3) X9 X10 X11 f7 _ _ _ h0 8 (le_refl _)
  have e8 : Scf.trips k0_t1_loop.lb k0_t1_loop.ub k0_t1_loop.st = 8 := by decide +kernel
  unfold finAcc fin
  rw [e8]
  revert h8
  generalize st_k0_t1 (F := Ideal) Variants.none c none i arg1 harg1 arg2 harg2 arg3 harg3 arg4 harg4 arg5 harg5 arg6 harg6 arg7 harg7 arg8 harg8 arg9 harg9
    arg10 harg10 arg11 harg11 arg12 harg12 arg13 harg13 s4 s5 s6 s7 (k0_pay347 s0 s1 s2 s3) X9 X10 X11 f7
    (arg12.view.writes (Elt Ideal) f11 (slotPieces 0 (by decide) ![s0, s1, s2, s3, s4, s5, s6, s7] ++ []))
    (arg13.view.writes (Elt Ideal) arg13.view.junk L13) (k0_pay352 s4 s5 s6 s7 (k0_pay347 s0 s1 s2 s3)) 8 = st
  intro h8
  dsimp only at h8
  obtain ⟨r, d, t, rfl⟩ : ∃ (r d : Fin 256) (t : Fin 8), y = ix3 (0 : Fin 1) (⟨256 * t.val + r.val, by omega⟩ : Fin 2048) d := by
    have h1 : (y 1).val < 2048 := (y 1).isLt
    refine ⟨⟨(y 1).val % 256, by omega⟩, y 2, ⟨(y 1).val / 256, by omega⟩, ?_⟩
    refine (eq_ix3 y).trans ?_
    rw [show y 0 = (0 : Fin 1) from Subsingleton.elim (α := Fin 1) _ _]
    congr 1
    apply Fin.ext
    dsimp only
    omega
  rw [← List.singleton_append, View.writes_append]
  refine (out_store arg8 _ _ _ _ 7 rfl t r d).trans ?_
  have ht : outOf (arg9.view.read (Elt Ideal) X9) (arg10.view.read (Elt Ideal) X10) (arg11.view.read (Elt Ideal) X11) (ix3 (0 : Fin 1) (⟨256 * t.val + r.val, by omega⟩ : Fin 2048) d)
      = out (arg9.view.read (Elt Ideal) X9) (arg10.view.read (Elt Ideal) X10) (arg11.view.read (Elt Ideal) X11) t (ix3 (0 : Fin 1) r d) := by
    show out _ _ _ (⟨(256 * t.val + r.val) / 256, _⟩ : Fin 8) (ix3 (0 : Fin 1) (⟨(256 * t.val + r.val) % 256, _⟩ : Fin 256) d) = _
    have a : (⟨(256 * t.val + r.val) / 256, by omega⟩ : Fin 8) = t := Fin.ext (by dsimp only; omega)
    have b : (⟨(256 * t.val + r.val) % 256, by omega⟩ : Fin 256) = r := Fin.ext (by dsimp only; omega)
    rw [a, b]
  rw [ht]
  split_ifs with h
  · have e : t = tile 7 := Fin.ext h
    have ha := h8.acc (by decide)
    refine (congrFun (show k0_pay1 _ _ _ _ = outTile ![_, _, _, _] from rfl) _).trans ?_
    refine congrFun (show outTile _ = outTile (acc _ _ _ t) from congrArg outTile ?_) _
    rw [e]
    refine Eq.trans ?_ ha
    rw [← View.writes_append]
    funext h
    fin_cases h
    · exact acc_load arg13 _ _ inb_S4x80x256_S1x80x256_0_0_0 0 rfl
    · exact acc_load arg13 _ _ inb_S4x80x256_S1x80x256_1_0_0 1 rfl
    · exact acc_load arg13 _ _ inb_S4x80x256_S1x80x256_2_0_0 2 rfl
    · exact acc_load arg13 _ _ inb_S4x80x256_S1x80x256_3_0_0 3 rfl
  · exact h8.out t (by omega) r d

end Fin

/-! ## The prepared pieces, each at the tile or chunk that its offset names -/

section Pieces

variable (x0 : Vec Ideal S1x2048x256 .f32) (x1 x2 : Vec Ideal S1x2048x128 .f32) (x3 x4 : Vec Ideal S8x128x256 .f32) (x5 x6 : Vec Ideal S2048x128 .f32)
  (a1 : Memref sig .tc .vmem S1x2048x256 .f32) (ha1 : a1.IsWhole) (a2 a3 : Memref sig .tc .vmem S1x2048x128 .f32) (ha2 : a2.IsWhole)
  (ha3 : a3.IsWhole) (a4 a5 : Memref sig .tc .vmem S8x128x256 .f32) (ha4 : a4.IsWhole) (ha5 : a5.IsWhole)
  (a6 a7 : Memref sig .tc .vmem S2048x128 .f32) (ha6 : a6.IsWhole) (ha7 : a7.IsWhole)

theorem q_zero_in {o : Fin 3 → ℕ} (inb : ∀ x, o x + S1x64x256.size x ≤ S8x512x256.size x) (h : Fin 4) (p : Fin 2) (hp : p.val ≠ h.val / 2) (ht : o 0 < 8)
    (ho : o = ![o 0, 128 * h.val + 64 * p.val, 0]) (x : S1x64x256.Idx) :
    k0_pay112 (F := Ideal) k0_pay109 x = qArr x0 x3 x4 ((Rect.unit (s := S8x512x256) o S1x64x256.size inb).emb x) :=
  q_zero_at x0 x3 x4 o inb ⟨o 0, ht⟩ h p hp ho x

theorem q_first_in {o o1 o4 : Fin 3 → ℕ}
    (inb : ∀ x, o x + S1x64x256.size x ≤ S8x512x256.size x) {inb1 : ∀ x, o1 x + S1x256x128.size x ≤ S1x2048x256.size x}
    {inb4 : ∀ x, o4 x + S1x64x256.size x ≤ S8x128x256.size x} (h : Fin 4) (hh : h.val % 2 = 0) (ht : o 0 < 8)
    (ho : o = ![o 0, 128 * h.val + 64 * (h.val / 2), 0]) (ho1 : o1 = ![0, 256 * o 0, 128 * (h.val / 2)]) (ho4 : o4 = ![o 0, 0, 0])
    (x : S1x64x256.Idx) :
    k0_pay111 (F := Ideal)
      (View.readAt (Elt Ideal) a1.view (Rect.unit (s := S1x2048x256) o1 S1x256x128.size inb1).toLoadRect (ha1.unread x0))
      (View.readAt (Elt Ideal) a4.view (Rect.unit (s := S8x128x256) o4 S1x64x256.size inb4).toLoadRect (ha4.unread x3))
      (View.readAt (Elt Ideal) a5.view (Rect.unit (s := S8x128x256) o4 S1x64x256.size inb4).toLoadRect (ha5.unread x4)) x
      = qArr x0 x3 x4 ((Rect.unit (s := S8x512x256) o S1x64x256.size inb).emb x) :=
  q_first_at x0 x3 x4 a1 ha1 a4 a5 ha4 ha5 o o1 o4 inb inb1 inb4 ⟨o 0, ht⟩ h hh ho ho1 ho4 x

theorem q_second_in {o o1 o4 : Fin 3 → ℕ}
    (inb : ∀ x, o x + S1x64x256.size x ≤ S8x512x256.size x) {inb1 : ∀ x, o1 x + S1x256x128.size x ≤ S1x2048x256.size x}
    {inb4 : ∀ x, o4 x + S1x64x256.size x ≤ S8x128x256.size x} (h : Fin 4) (hh : h.val % 2 = 1) (ht : o 0 < 8)
    (ho : o = ![o 0, 128 * h.val + 64 * (h.val / 2), 0]) (ho1 : o1 = ![0, 256 * o 0, 128 * (h.val / 2)]) (ho4 : o4 = ![o 0, 64, 0])
    (x : S1x64x256.Idx) :
    k0_pay113 (F := Ideal)
      (k0_pay110 (View.readAt (Elt Ideal) a1.view (Rect.unit (s := S1x2048x256) o1 S1x256x128.size inb1).toLoadRect (ha1.unread x0)))
      (View.readAt (Elt Ideal) a4.view (Rect.unit (s := S8x128x256) o4 S1x64x256.size inb4).toLoadRect (ha4.unread x3))
      (View.readAt (Elt Ideal) a5.view (Rect.unit (s := S8x128x256) o4 S1x64x256.size inb4).toLoadRect (ha5.unread x4)) x
      = qArr x0 x3 x4 ((Rect.unit (s := S8x512x256) o S1x64x256.size inb).emb x) :=
  q_second_at x0 x3 x4 a1 ha1 a4 a5 ha4 ha5 o o1 o4 inb inb1 inb4 ⟨o 0, ht⟩ h hh ho ho1 ho4 x

theorem k_in (hx : ∀ s k, ∃ y : ℝ, x1 (ix3 0 s k) = (y : EReal)) {o : Fin 2 → ℕ} {o2 : Fin 3 → ℕ}
    (inb : ∀ x, o x + S256x128.size x ≤ S2048x128.size x) {inb2 : ∀ x, o2 x + S1x256x128.size x ≤ S1x2048x128.size x}
    (hc : o 0 / 256 < 8) (ho : o = ![256 * (o 0 / 256), 0]) (ho2 : o2 = ![0, 256 * (o 0 / 256), 0]) (x : S256x128.Idx) :
    kP (View.readAt (Elt Ideal) a2.view (Rect.unit (s := S1x2048x128) o2 S1x256x128.size inb2).toLoadRect (ha2.unread x1))
      (View.readAt (Elt Ideal) a6.view (Rect.unit (s := S2048x128) o S256x128.size inb).toLoadRect (ha6.unread x5))
      (View.readAt (Elt Ideal) a7.view (Rect.unit (s := S2048x128) o S256x128.size inb).toLoadRect (ha7.unread x6)) x
      = kArr x1 x5 x6 ((Rect.unit (s := S2048x128) o S256x128.size inb).emb x) :=
  k_at x1 x5 x6 a2 ha2 a6 a7 ha6 ha7 hx o o2 inb inb2 ⟨o 0 / 256, hc⟩ ho ho2 x

theorem v_first_in {o : Fin 4 → ℕ} {o2 : Fin 3 → ℕ}
    (inb : ∀ x, o x + S1x1x64x256.size x ≤ S2x8x80x256.size x) {inb2 : ∀ x, o2 x + S1x256x128.size x ≤ S1x2048x128.size x}
    (hc : o 1 < 8) (ho : o = ![0, o 1, 0, 0]) (ho2 : o2 = ![0, 256 * o 1, 0]) (x : S1x1x64x256.Idx) :
    k0_pay133 (F := Ideal) (View.readAt (Elt Ideal) a3.view (Rect.unit (s := S1x2048x128) o2 S1x256x128.size inb2).toLoadRect (ha3.unread x2)) x
      = vArr x2 ((Rect.unit (s := S2x8x80x256) o S1x1x64x256.size inb).emb x) :=
  v_first_at x2 a3 ha3 o o2 inb inb2 ⟨o 1, hc⟩ ho ho2 x

theorem v_second_in {o : Fin 4 → ℕ} {o2 : Fin 3 → ℕ}
    (inb : ∀ x, o x + S1x1x64x256.size x ≤ S2x8x80x256.size x) {inb2 : ∀ x, o2 x + S1x256x128.size x ≤ S1x2048x128.size x}
    (hc : o 1 < 8) (ho : o = ![1, o 1, 0, 0]) (ho2 : o2 = ![0, 256 * o 1, 0]) (x : S1x1x64x256.Idx) :
    k0_pay135 (F := Ideal) (View.readAt (Elt Ideal) a3.view (Rect.unit (s := S1x2048x128) o2 S1x256x128.size inb2).toLoadRect (ha3.unread x2)) x
      = vArr x2 ((Rect.unit (s := S2x8x80x256) o S1x1x64x256.size inb).emb x) :=
  v_second_at x2 a3 ha3 o o2 inb inb2 ⟨o 1, hc⟩ ho ho2 x

theorem v_ones_in {o : Fin 4 → ℕ} (inb : ∀ x, o x + S1x1x16x256.size x ≤ S2x8x80x256.size x)
    (g : Fin 2) (hc : o 1 < 8) (ho : o = ![g.val, o 1, 64, 0]) (x : S1x1x16x256.Idx) :
    k0_pay134 (F := Ideal) x = vArr x2 ((Rect.unit (s := S2x8x80x256) o S1x1x16x256.size inb).emb x) :=
  v_ones_at x2 o inb g ⟨o 1, hc⟩ ho x

end Pieces

theorem q_read (a : Memref sig .tc .vmem S8x512x256 .bf16) (L : List (View.Piece (Elt Ideal) S8x512x256 .bf16)) (x0 : Vec Ideal S1x2048x256 .f32)
    (x3 x4 : Vec Ideal S8x128x256 .f32) (hp : ∀ p ∈ L, ∀ x, p.2 x = qArr x0 x3 x4 (p.1.emb x)) (hc : View.Piece.tiledL L S1x64x256.size = true) :
    a.view.read (Elt Ideal) (a.view.writes (Elt Ideal) a.view.junk L) = qArr x0 x3 x4 :=
  funext fun y => View.read_writes_apply_of_pieces _ _ _ _ hp y (View.cover_of_tiledL L _ hc y)

theorem k_read (a : Memref sig .tc .vmem S2048x128 .bf16) (L : List (View.Piece (Elt Ideal) S2048x128 .bf16)) (x1 : Vec Ideal S1x2048x128 .f32)
    (x5 x6 : Vec Ideal S2048x128 .f32) (hp : ∀ p ∈ L, ∀ x, p.2 x = kArr x1 x5 x6 (p.1.emb x)) (hc : View.Piece.tiledL L S256x128.size = true) :
    a.view.read (Elt Ideal) (a.view.writes (Elt Ideal) a.view.junk L) = kArr x1 x5 x6 :=
  funext fun y => View.read_writes_apply_of_pieces _ _ _ _ hp y (View.cover_of_tiledL L _ hc y)

theorem v_read (a : Memref sig .tc .vmem S2x8x80x256 .bf16) (L : List (View.Piece (Elt Ideal) S2x8x80x256 .bf16)) (x2 : Vec Ideal S1x2048x128 .f32)
    (hp : ∀ p ∈ L, ∀ x, p.2 x = vArr x2 (p.1.emb x)) (hc : View.Piece.tiledBy L ![1, 1, 16, 256] = true) :
    a.view.read (Elt Ideal) (a.view.writes (Elt Ideal) a.view.junk L) = vArr x2 :=
  funext fun y => View.read_writes_apply_of_pieces _ _ _ _ hp y (View.cover_of_tiledBy L _ hc y)

set_option maxHeartbeats 8000000 in
/-- The body, from its seven inputs at their contents and the output and the scratch at any: it returns the inputs as
    they were and the output at `outArr`. -/
theorem body_value (c : Dev nD) (i : grid0.Coords) (arg1 : Memref sig .tc .vmem S1x2048x256 .f32) (harg1 : arg1.IsWhole) (arg2 : Memref sig .tc .vmem S1x2048x128 .f32) (harg2 : arg2.IsWhole) (arg3 : Memref sig .tc .vmem S1x2048x128 .f32) (harg3 : arg3.IsWhole) (arg4 : Memref sig .tc .vmem S8x128x256 .f32) (harg4 : arg4.IsWhole) (arg5 : Memref sig .tc .vmem S8x128x256 .f32) (harg5 : arg5.IsWhole) (arg6 : Memref sig .tc .vmem S2048x128 .f32) (harg6 : arg6.IsWhole) (arg7 : Memref sig .tc .vmem S2048x128 .f32) (harg7 : arg7.IsWhole) (arg8 : Memref sig .tc .vmem S1x2048x256 .bf16) (harg8 : arg8.IsWhole) (arg9 : Memref sig .tc .vmem S8x512x256 .bf16) (harg9 : arg9.IsWhole) (arg10 : Memref sig .tc .vmem S2048x128 .bf16) (harg10 : arg10.IsWhole) (arg11 : Memref sig .tc .vmem S2x8x80x256 .bf16) (harg11 : arg11.IsWhole) (arg12 : Memref sig .tc .vmem S2x2048x256 .f32) (harg12 : arg12.IsWhole) (arg13 : Memref sig .tc .vmem S4x80x256 .f32) (harg13 : arg13.IsWhole) (x0 : Vec Ideal S1x2048x256 .f32) (x1 : Vec Ideal S1x2048x128 .f32) (x2 : Vec Ideal S1x2048x128 .f32) (x3 : Vec Ideal S8x128x256 .f32) (x4 : Vec Ideal S8x128x256 .f32) (x5 : Vec Ideal S2048x128 .f32) (x6 : Vec Ideal S2048x128 .f32) (K : PUnit → sProp 𝕄) (hx1 : ∀ s k, ∃ y : ℝ, x1 (ix3 0 s k) = (y : EReal)) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (outArr x0 x1 x2 x3 x4 x5 x6) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := Ideal)) Variants.none c none) Set.univ (cc0_gqa_attention i arg1 harg1 arg2 harg2 arg3 harg3 arg4 harg4 arg5 harg5 arg6 harg6 arg7 harg7 arg8 harg8 arg9 harg9 arg10 harg10 arg11 harg11 arg12 harg12 arg13 harg13) K := by
  simp only [cc0_gqa_attention_eq_skeleton]; unfold cc0_gqa_attention_skel
  simp only [k0_part80_eq_skeleton]; unfold k0_part80_skel
  simp only [k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr
    swap; · iexact H7
    ipureintro
    funext y
    refine (fin_out c i arg1 harg1 arg2 harg2 arg3 harg3 arg4 harg4 arg5 harg5 arg6 harg6 arg7 harg7 arg8 harg8 arg9 harg9
      arg10 harg10 arg11 harg11 arg12 harg12 arg13 harg13 _ _ _ f7 f11 _ _ _ _ _ _ _ _ _ ?_ y).trans ?_
    · exact scores8 arg9 _ arg10 _ ![0, 0, 0] _ 0 0 rfl
    · have hQ := q_read arg9 _ x0 x3 x4 (?_ : ∀ p ∈ body_value.sl.H8_64 c arg1 harg1 arg4 harg4 arg5 harg5 x0 x3 x4, _) rfl
      have hK := k_read arg10 _ x1 x5 x6 (?_ : ∀ p ∈ body_value.sl.H9_8 c arg2 harg2 arg6 harg6 arg7 harg7 x1 x5 x6, _) rfl
      have hV := v_read arg11 _ x2 (?_ : ∀ p ∈ body_value.sl.H10_32 c arg3 harg3 x2, _) (by sl_kernel_rfl)
      · unfold outArr
        rw [← hQ, ← hK, ← hV]
      · iterate 8
          refine List.forall_mem_cons.2 ⟨fun x => v_ones_in x2 (by decide) 1 (by decide) (by rfl) x, ?_⟩
          refine List.forall_mem_cons.2 ⟨fun x => v_second_in x2 arg3 harg3 (by decide) (by decide) (by rfl) (by rfl) x, ?_⟩
          refine List.forall_mem_cons.2 ⟨fun x => v_ones_in x2 (by decide) 0 (by decide) (by rfl) x, ?_⟩
          refine List.forall_mem_cons.2 ⟨fun x => v_first_in x2 arg3 harg3 (by decide) (by decide) (by rfl) (by rfl) x, ?_⟩
        exact List.forall_mem_nil _
      · iterate 8
          refine List.forall_mem_cons.2 ⟨fun x => k_in x1 x5 x6 arg2 harg2 arg6 arg7 harg6 harg7 hx1 (by decide) (by decide) (by rfl) (by rfl) x, ?_⟩
        exact List.forall_mem_nil _
      · iterate 8
          refine List.forall_mem_cons.2 ⟨fun x => q_second_in x0 x3 x4 arg1 harg1 arg4 arg5 harg4 harg5 (by decide) 3 (by decide) (by decide) (by rfl) (by rfl) (by rfl) x, ?_⟩
          refine List.forall_mem_cons.2 ⟨fun x => q_zero_in x0 x3 x4 (by decide) 3 0 (by decide) (by decide) (by rfl) x, ?_⟩
          refine List.forall_mem_cons.2 ⟨fun x => q_first_in x0 x3 x4 arg1 harg1 arg4 arg5 harg4 harg5 (by decide) 2 (by decide) (by decide) (by rfl) (by rfl) (by rfl) x, ?_⟩
          refine List.forall_mem_cons.2 ⟨fun x => q_zero_in x0 x3 x4 (by decide) 2 0 (by decide) (by decide) (by rfl) x, ?_⟩
          refine List.forall_mem_cons.2 ⟨fun x => q_zero_in x0 x3 x4 (by decide) 1 1 (by decide) (by decide) (by rfl) x, ?_⟩
          refine List.forall_mem_cons.2 ⟨fun x => q_second_in x0 x3 x4 arg1 harg1 arg4 arg5 harg4 harg5 (by decide) 1 (by decide) (by decide) (by rfl) (by rfl) (by rfl) x, ?_⟩
          refine List.forall_mem_cons.2 ⟨fun x => q_zero_in x0 x3 x4 (by decide) 0 1 (by decide) (by decide) (by rfl) x, ?_⟩
          refine List.forall_mem_cons.2 ⟨fun x => q_first_in x0 x3 x4 arg1 harg1 arg4 arg5 harg4 harg5 (by decide) 0 (by decide) (by decide) (by rfl) (by rfl) (by rfl) x, ?_⟩
        exact List.forall_mem_nil _
  isplitl [H8]
  · iexists _; iexists _; isplitr
    swap; · iexact H8
    ipureintro; rfl
  isplitl [H9]
  · iexists _; iexists _; isplitr
    swap; · iexact H9
    ipureintro; rfl
  isplitl [H10]
  · iexists _; iexists _; isplitr
    swap; · iexact H10
    ipureintro; rfl
  isplitl [H11]
  · iexists _; iexists _; isplitr
    swap; · iexact H11
    ipureintro; rfl
  iexists _; iexists _; isplitr
  swap; · iexact H12
  ipureintro; rfl

end Cert.Proof.Gqa
end
-- ==== Proof.GqaMath.lean ====
/- The arithmetic of the attention over the real numbers: the norm commutes with the rotation, and a softmax does not depend on the
   number subtracted from the scores, nor on the base of the exponentials. -/
module

public import proofs.«01_k».proof.Proof.GqaPrep

@[expose] public section

set_option maxRecDepth 16384

noncomputable section

namespace Cert.Proof.Gqa

open Idealize.ShloMosaic Idealize.ShloMosaic.TcCoe
open Cert.KernelIdeal

/-- A head vector normed and scaled by the gains. -/
def nv (x g : Fin 64 → EReal) (d : Fin 64) : EReal := x d * rms x * g d

/-- A normed head vector rotated, `c` and `s` the cosine and the sine of the angle. -/
def roped (x g : Fin 64 → EReal) (c s : EReal) (d : Fin 64) : EReal :=
  nv x g d * c + (if d.val % 32 < 16 then -(nv x g (sw d)) else nv x g (sw d)) * s

theorem rms_real (x : Fin 64 → EReal) (hx : ∀ k, ∃ r : ℝ, x k = r) : ∃ r : ℝ, rms x = r := by
  choose y hy using hx
  obtain ⟨e, he, hb⟩ := bits_eps
  unfold rms
  simp only [hy, hb, bits_64, ← EReal.coe_mul, coe_sum]
  have h0 : 0 ≤ ∑ k, y k * y k := Finset.sum_nonneg fun k _ => mul_self_nonneg _
  rw [div_real _ _ (by norm_num), ← EReal.coe_add, rsqrt_real _ (by positivity)]
  exact ⟨_, rfl⟩

theorem roped_real (x g : Fin 64 → EReal) (c s : EReal) (d : Fin 64) (hx : ∀ k, ∃ r : ℝ, x k = r) (hg : ∀ k, ∃ r : ℝ, g k = r)
    (hc : ∃ r : ℝ, c = r) (hs : ∃ r : ℝ, s = r) : ∃ r : ℝ, roped x g c s d = r := by
  obtain ⟨R, hR⟩ := rms_real x hx
  choose y hy using hx
  choose h hh using hg
  obtain ⟨c, rfl⟩ := hc
  obtain ⟨s, rfl⟩ := hs
  unfold roped nv
  simp only [hR, hy, hh, ← EReal.coe_mul, ← EReal.coe_neg]
  split_ifs
  · exact ⟨_, by rw [← EReal.coe_mul, ← EReal.coe_add]⟩
  · exact ⟨_, by rw [← EReal.coe_mul, ← EReal.coe_add]⟩

/-- The gains folded into the tables and the norm's factor taken after the rotation. -/
theorem kv_roped (x g : Fin 64 → EReal) (c s : EReal) (d : Fin 64) (hx : ∀ k, ∃ r : ℝ, x k = r) (hg : ∀ k, ∃ r : ℝ, g k = r)
    (hc : ∃ r : ℝ, c = r) (hs : ∃ r : ℝ, s = r) :
    kv x (g d * c) (g (sw d) * (if d.val % 32 < 16 then -1 else 1) * s) d = roped x g c s d := by
  obtain ⟨R, hR⟩ := rms_real x hx
  choose y hy using hx
  choose h hh using hg
  obtain ⟨c, rfl⟩ := hc
  obtain ⟨s, rfl⟩ := hs
  unfold kv rot roped nv
  simp only [hR, hy, hh]
  rw [show (-1 : EReal) = ((-1 : ℝ) : EReal) from by rw [EReal.coe_neg, EReal.coe_one], show (1 : EReal) = ((1 : ℝ) : EReal) from EReal.coe_one.symm]
  split_ifs
  all_goals
    simp only [← EReal.coe_mul, ← EReal.coe_neg, ← EReal.coe_add]
    exact congrArg _ (by ring)

/-- The scale of the queries. -/
theorem q_scale_val : Named.named (F := Ideal) (φ := .f32) κ "q_scale" 0x3E38AA3B#32 = (((1 / 8) * (Real.log 2)⁻¹ : ℝ) : EReal) := rfl

theorem qv_roped (x g : Fin 64 → EReal) (c s : EReal) (d : Fin 64) (hx : ∀ k, ∃ r : ℝ, x k = r) (hg : ∀ k, ∃ r : ℝ, g k = r)
    (hc : ∃ r : ℝ, c = r) (hs : ∃ r : ℝ, s = r) :
    qv x (g d * c) (g (sw d) * (if d.val % 32 < 16 then -1 else 1) * s) d = roped x g c s d * (((1 / 8) * (Real.log 2)⁻¹ : ℝ) : EReal) := by
  rw [← kv_roped x g c s d hx hg hc hs]
  unfold qv kv
  rw [q_scale_val, mul_right_comm]

/-- The softmax of real scores against real values. -/
def soft (z v : Fin 2048 → ℝ) : ℝ := (∑ k, v k * Real.exp (z k)) / ∑ k, Real.exp (z k)

theorem exp_pos_sum (z : Fin 2048 → ℝ) : 0 < ∑ k, Real.exp (z k) :=
  Finset.sum_pos (fun k _ => Real.exp_pos _) ⟨0, Finset.mem_univ _⟩

theorem soft_shift (z v : Fin 2048 → ℝ) (a : ℝ) :
    (∑ k, v k * Real.exp (z k - a)) / (∑ k, Real.exp (z k - a)) = soft z v := by
  unfold soft
  have h1 : ∑ k, v k * Real.exp (z k - a) = (∑ k, v k * Real.exp (z k)) * Real.exp (-a) := by
    rw [Finset.sum_mul]; exact Finset.sum_congr rfl fun k _ => by rw [sub_eq_add_neg, Real.exp_add]; ring
  have h2 : ∑ k, Real.exp (z k - a) = (∑ k, Real.exp (z k)) * Real.exp (-a) := by
    rw [Finset.sum_mul]; exact Finset.sum_congr rfl fun k _ => by rw [sub_eq_add_neg, Real.exp_add]
  rw [h1, h2, mul_div_mul_right _ _ (Real.exp_pos _).ne']

/-- The reference's softmax. -/
theorem soft_ref (z v : Fin 2048 → ℝ) (a : ℝ) :
    ∑ k, Ideal.div (Ideal.exp ((z k : EReal) - (a : EReal))) (∑ j, Ideal.exp ((z j : EReal) - (a : EReal))) * (v k : EReal) = (soft z v : EReal) := by
  have he : ∀ k, Ideal.exp ((z k : EReal) - (a : EReal)) = ((Real.exp (z k - a) : ℝ) : EReal) := fun k => by rw [← EReal.coe_sub]; rfl
  simp only [he, coe_sum]
  have hp := exp_pos_sum fun k => z k - a
  simp only [div_real _ _ hp.ne', ← EReal.coe_mul, coe_sum]
  rw [← soft_shift z v a, Finset.sum_div]
  exact congrArg _ (Finset.sum_congr rfl fun k _ => by ring)

/-- The kernel's softmax: powers of two, and the sum of the weights kept as the weighted sum of ones. -/
theorem soft_ker (z v : Fin 2048 → ℝ) (a : ℝ) :
    Ideal.div (∑ k, (v k : EReal) * Ideal.exp2 (((z k * (Real.log 2)⁻¹ : ℝ) : EReal) - (a : EReal)))
      (∑ k, 1 * Ideal.exp2 (((z k * (Real.log 2)⁻¹ : ℝ) : EReal) - (a : EReal))) = (soft z v : EReal) := by
  have hl : Real.log 2 ≠ 0 := (Real.log_pos (by norm_num)).ne'
  have he : ∀ k, Ideal.exp2 (((z k * (Real.log 2)⁻¹ : ℝ) : EReal) - (a : EReal)) = ((Real.exp (z k - a * Real.log 2) : ℝ) : EReal) := fun k => by
    rw [← EReal.coe_sub]
    show (((2 : ℝ) ^ (z k * (Real.log 2)⁻¹ - a) : ℝ) : EReal) = _
    rw [Real.rpow_def_of_pos (by norm_num)]
    refine congrArg (fun y : ℝ => ((Real.exp y : ℝ) : EReal)) ?_
    field_simp
  simp only [he, one_mul, ← EReal.coe_mul, coe_sum]
  have hp := exp_pos_sum fun k => z k - a * Real.log 2
  rw [div_real _ _ hp.ne', soft_shift]

end Cert.Proof.Gqa
-- ==== Proof.GqaScore.lean ====
/- The attention call's output as a softmax: its scores over all the keys, its accumulated values, and their quotient. -/
module

public import proofs.«01_k».proof.Proof.GqaBody
public import proofs.«01_k».proof.Proof.GqaMath

@[expose] public section

set_option maxRecDepth 16384

noncomputable section

namespace Cert.Proof.Gqa

open Idealize.ShloMosaic Idealize.ShloMosaic.TcCoe
open Cert.KernelIdeal Cert.KernelIdeal.Gen

theorem bits_bot : Ideal.ofBits .f32 0xFF800000#32 = ⊥ := by
  simp [Ideal.ofBits, Ideal.ieee]

/-- The maximum of finitely many real numbers, taken from minus infinity, is real. -/
theorem fold_max_real {ι : Type} [Fintype ι] [Nonempty ι] (f : ι → EReal) (hf : ∀ i, ∃ r : ℝ, f i = r) :
    ∃ r : ℝ, Finset.fold max (Ideal.ofBits .f32 0xFF800000#32) f Finset.univ = r := by
  rw [bits_bot]
  obtain ⟨i, _, hi⟩ := Finset.exists_mem_eq_sup Finset.univ Finset.univ_nonempty f
  obtain ⟨r, hr⟩ := hf i
  exact ⟨r, hi.trans hr⟩

theorem max_real (a b : EReal) (ha : ∃ r : ℝ, a = r) (hb : ∃ r : ℝ, b = r) : ∃ r : ℝ, max a b = r := by
  rcases max_choice a b with h | h <;> rw [h] <;> assumption

/-- A sum over the keys, chunk by chunk. -/
theorem sum_chunks (f : Fin 2048 → EReal) : ∑ c : Fin 8, ∑ k : Fin 256, f ⟨256 * c.val + k.val, by omega⟩ = ∑ n, f n := by
  rw [← Fintype.sum_prod_type (f := fun p : Fin 8 × Fin 256 => f ⟨256 * p.1.val + p.2.val, by omega⟩)]
  exact Fintype.sum_equiv (finProdFinEquiv (m := 8) (n := 256)) _ _ fun p => congrArg f (Fin.ext (by
    show 256 * p.1.val + p.2.val = p.2.val + 256 * p.1.val
    omega))

/-- A sum over 128 lanes of which one half of 64 is not zero. -/
theorem sum_lanes (f : Fin 128 → EReal) (g : Fin 2) (h0 : ∀ l : Fin 128, l.val / 64 ≠ g.val → f l = 0) :
    ∑ l, f l = ∑ d : Fin 64, f ⟨64 * g.val + d.val, by omega⟩ := by
  have h := Fintype.sum_equiv (finProdFinEquiv (m := 2) (n := 64)) (fun p => f ⟨64 * p.1.val + p.2.val, by omega⟩) f fun p => congrArg f (Fin.ext (by
    show 64 * p.1.val + p.2.val = p.2.val + 64 * p.1.val
    omega))
  rw [← h, Fintype.sum_prod_type]
  refine Finset.sum_eq_single g (fun b _ hb => Finset.sum_eq_zero fun d _ => h0 _ ?_) (fun h => absurd (Finset.mem_univ _) h)
  intro hc
  refine hb (Fin.ext ?_)
  dsimp only at hc
  omega

section
variable (Q : S8x512x256.Idx → Elt Ideal .bf16) (K : S2048x128.Idx → Elt Ideal .bf16) (W : S2x8x80x256.Idx → Elt Ideal .bf16)
  (t : Fin 8) (h : Fin 4) (r : Fin 256)

/-- The score of key `n` against query `r` of tile `t` in head `h`. -/
def sc (n : Fin 2048) : EReal :=
  ∑ l : Fin 128, (K (ix2 n l) : EReal) * (Q (ix3 t (⟨128 * h.val + l.val, by omega⟩ : Fin 512) r) : EReal)

theorem S_apply (c : Fin 8) (k : Fin 256) : S (F := Ideal) Q K t h c (ix2 k r) = sc Q K t h r ⟨256 * c.val + k.val, by omega⟩ := by
  unfold S
  pointwise [scoreBlk]
  rfl

theorem max8_real (s : FVec Ideal S256x256 .f32) (r : Fin 256) (hs : ∀ k, ∃ z : ℝ, s (ix2 k r) = (z : EReal)) (i : Fin 8) :
    ∃ z : ℝ, max8 s (ix2 i r) = (z : EReal) := by
  have h := fold_max_real (fun x : Fin 32 => (s (ix2 (⟨x.val * 8 + i.val, by omega⟩ : Fin 256) r) : EReal)) fun x => hs _
  revert h
  generalize hw : Finset.fold max (Ideal.ofBits .f32 0xFF800000#32) (fun x : Fin 32 => (s (ix2 (⟨x.val * 8 + i.val, by omega⟩ : Fin 256) r) : EReal)) Finset.univ = w
  rintro ⟨z, rfl⟩
  refine ⟨z, ?_⟩
  pointwise [max8]
  exact hw

theorem colMax_real (s : Fin 8 → FVec Ideal S256x256 .f32) (hs : ∀ c k, ∃ z : ℝ, s c (ix2 k r) = (z : EReal)) :
    ∃ z : ℝ, colMax s (ix2 0 r) = (z : EReal) := by
  have h8 := fun c x => max8_real (s c) r (hs c) x
  have h := fold_max_real (fun x : Fin 8 => (max (max (max (max (max (max (max (max8 (s 0) (ix2 x r)) (max8 (s 1) (ix2 x r))) (max8 (s 2) (ix2 x r)))
    (max8 (s 3) (ix2 x r))) (max8 (s 4) (ix2 x r))) (max8 (s 5) (ix2 x r))) (max8 (s 6) (ix2 x r))) (max8 (s 7) (ix2 x r)) : EReal)) fun x =>
      max_real _ _ (max_real _ _ (max_real _ _ (max_real _ _ (max_real _ _ (max_real _ _ (max_real _ _ (h8 0 x) (h8 1 x)) (h8 2 x)) (h8 3 x)) (h8 4 x)) (h8 5 x)) (h8 6 x)) (h8 7 x)
  obtain ⟨z, hw⟩ := h
  refine ⟨z, ?_⟩
  pointwise [colMax]
  exact hw

theorem pv_apply (s : FVec Ideal S256x256 .f32) (m : FVec Ideal S1x256 .f32) (v : FVec Ideal S80x256 .bf16) (d : Fin 80) :
    pv s m v (ix2 d r) = ∑ x : Fin 256, (v (ix2 d x) : EReal) * Ideal.exp2 ((s (ix2 x r) : EReal) - (m (ix2 0 r) : EReal)) := by
  pointwise [pv]
  rfl

theorem acc_apply (d : Fin 80) : acc (F := Ideal) Q K W t h (ix2 d r) =
    ∑ n : Fin 2048, (W (ix4 (⟨h.val / 2, by omega⟩ : Fin 2) (⟨n.val / 256, by omega⟩ : Fin 8) d (⟨n.val % 256, by omega⟩ : Fin 256)) : EReal)
      * Ideal.exp2 (sc Q K t h r n - (colMax (F := Ideal) (S Q K t h) (ix2 0 r) : EReal)) := by
  rw [← sum_chunks, Fin.sum_univ_eight]
  have hp : ∀ c : Fin 8, pv (F := Ideal) (S Q K t h c) (colMax (S Q K t h)) (vChunk W ⟨h.val / 2, by omega⟩ c) (ix2 d r) =
      ∑ k : Fin 256, (W (ix4 (⟨h.val / 2, by omega⟩ : Fin 2) (⟨(256 * c.val + k.val) / 256, by omega⟩ : Fin 8) d (⟨(256 * c.val + k.val) % 256, by omega⟩ : Fin 256)) : EReal)
        * Ideal.exp2 (sc Q K t h r ⟨256 * c.val + k.val, by omega⟩ - (colMax (F := Ideal) (S Q K t h) (ix2 0 r) : EReal)) := fun c => by
    rw [pv_apply]
    refine Finset.sum_congr rfl fun k _ => ?_
    rw [S_apply, show (⟨(256 * c.val + k.val) / 256, by omega⟩ : Fin 8) = c from Fin.ext (by dsimp only; omega),
      show (⟨(256 * c.val + k.val) % 256, by omega⟩ : Fin 256) = k from Fin.ext (by dsimp only; omega)]
    rfl
  simp only [← hp]
  rfl

theorem out_apply (e : Fin 256) : out (F := Ideal) Q K W t (ix3 0 r e) =
    Ideal.div (acc (F := Ideal) Q K W t ⟨e.val / 64, by omega⟩ (ix2 (⟨e.val % 64, by omega⟩ : Fin 80) r))
      (acc (F := Ideal) Q K W t ⟨e.val / 64, by omega⟩ (ix2 (64 : Fin 80) r)) := by
  unfold out
  generalize acc (F := Ideal) Q K W t = a
  pointwise [outTile, quot]
  have key : ∀ (i : Fin 4) (d : Fin 80), i.val = e.val / 64 → d.val = e.val % 64 →
      Ideal.div (a i (ix2 d r)) (a i (ix2 (64 : Fin 80) r)) = Ideal.div (a ⟨e.val / 64, by omega⟩ (ix2 (⟨e.val % 64, by omega⟩ : Fin 80) r))
        (a ⟨e.val / 64, by omega⟩ (ix2 (64 : Fin 80) r)) := fun i d hi hd => by
    rw [show i = ⟨e.val / 64, by omega⟩ from Fin.ext hi, show d = ⟨e.val % 64, by omega⟩ from Fin.ext hd]
  have he := e.isLt
  rcases (by omega : e.val < 64 ∨ (64 ≤ e.val ∧ e.val < 128) ∨ (128 ≤ e.val ∧ e.val < 192) ∨ 192 ≤ e.val) with h | h | h | h
  · rw [dif_pos h]
    exact key 0 _ (by show 0 = e.val / 64; omega) (by show e.val = e.val % 64; omega)
  · rw [dif_neg (by omega), dif_pos (show e.val - 64 < 64 by omega)]
    exact key 1 _ (by show 1 = e.val / 64; omega) (by show e.val - 64 = e.val % 64; omega)
  · rw [dif_neg (by omega), dif_neg (show ¬ e.val - 64 < 64 by omega), dif_pos (show e.val - 64 - 64 < 64 by omega)]
    exact key 2 _ (by show 2 = e.val / 64; omega) (by show e.val - 64 - 64 = e.val % 64; omega)
  · rw [dif_neg (by omega), dif_neg (show ¬ e.val - 64 < 64 by omega), dif_neg (show ¬ e.val - 64 - 64 < 64 by omega)]
    exact key 3 _ (by show 3 = e.val / 64; omega) (by show e.val - 64 - 64 - 64 = e.val % 64; omega)

/-- The output is the softmax of the scores against the values. -/
theorem out_soft (g : Fin 2) (d : Fin 64) (e : Fin 256) (hg : g.val = h.val / 2) (he : e.val = 64 * h.val + d.val) (z v : Fin 2048 → ℝ)
    (hs : ∀ n, sc Q K t h r n = ((z n * (Real.log 2)⁻¹ : ℝ) : EReal))
    (hv : ∀ n : Fin 2048, W (ix4 g (⟨n.val / 256, by omega⟩ : Fin 8) (⟨d.val, by omega⟩ : Fin 80) (⟨n.val % 256, by omega⟩ : Fin 256)) = (v n : EReal))
    (h1 : ∀ n : Fin 2048, W (ix4 g (⟨n.val / 256, by omega⟩ : Fin 8) (64 : Fin 80) (⟨n.val % 256, by omega⟩ : Fin 256)) = (1 : EReal)) :
    out (F := Ideal) Q K W t (ix3 0 r e) = (soft z v : EReal) := by
  obtain ⟨M, hM⟩ := colMax_real r (S (F := Ideal) Q K t h) fun c k => by rw [S_apply, hs]; exact ⟨_, rfl⟩
  rw [out_apply, show (⟨e.val / 64, by omega⟩ : Fin 4) = h from Fin.ext (by dsimp only; omega),
    show (⟨e.val % 64, by omega⟩ : Fin 80) = ⟨d.val, by omega⟩ from Fin.ext (by dsimp only; omega), acc_apply, acc_apply,
    show (⟨h.val / 2, by omega⟩ : Fin 2) = g from Fin.ext hg.symm, ← soft_ker z v M]
  simp only [hs, hv, h1, hM]

end

end Cert.Proof.Gqa
-- ==== Proof.GqaLaunch.lean ====
/- The attention call's launch over the extended reals, its result named. -/
module

public import proofs.«01_k».proof.Proof.Gen.KernelIdeal.Frame
public import proofs.«01_k».proof.Proof.Gen.KernelIdeal.Loops
public import proofs.«01_k».proof.Proof.GqaBody

@[expose] public section

set_option maxRecDepth 16384

noncomputable section

namespace Cert.Proof.GqaLaunch

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The call's proof data: the inputs' buffers at their blocks, the output's at the attention of them. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => Gqa.outArr (iblk m c 0 t) (iblk m c 1 t) (iblk m c 2 t) (iblk m c 3 t) (iblk m c 4 t) (iblk m c 5 t) (iblk m c 6 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  before0_0_of m (dats m 0 c) (A_eq m c 0) (after_0 m c) t d
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  before0_1_of m (dats m 0 c) (A_eq m c 1) (after_1 m c) t d
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  before0_2_of m (dats m 0 c) (A_eq m c 2) (after_2 m c) t d
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  before0_3_of m (dats m 0 c) (A_eq m c 3) (after_3 m c) t d
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  before0_4_of m (dats m 0 c) (A_eq m c 4) (after_4 m c) t d
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  before0_5_of m (dats m 0 c) (A_eq m c 5) (after_5 m c) t d
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  before0_6_of m (dats m 0 c) (A_eq m c 6) (after_6 m c) t d

theorem after_7 (c : Dev nD) (t : Fin cfg0.N) : (dats m 0 c).after 7 t = Gqa.outArr (iblk m c 0 t) (iblk m c 1 t) (iblk m c 2 t) (iblk m c 3 t) (iblk m c 4 t) (iblk m c 5 t) (iblk m c 6 t) := by dsimp only [dats]

/-- The keys' blocks are real. -/
def KeysReal : Prop := ∀ (c : Dev nD) (t : Fin cfg0.N) (s : Fin 2048) (k : Fin 128), ∃ y : ℝ, (iblk m c 1 t : Vec Ideal S1x2048x128 .f32) (ix3 0 s k) = (y : EReal)

/-- The scoped rest is the five scratch buffers at some contents. -/
theorem PhiA_eq (c : Dev nD) :
    (Pipeline.ΦA spec0 c : sProp 𝕄)
      = iprop(((∃ d, owns (c : Thread nD τ) (Memref.whole cc0_scratch0) fullShare d)
          ∗ (∃ d, owns (c : Thread nD τ) (Memref.whole cc0_scratch1) fullShare d)
          ∗ (∃ d, owns (c : Thread nD τ) (Memref.whole cc0_scratch2) fullShare d)
          ∗ (∃ d, owns (c : Thread nD τ) (Memref.whole cc0_scratch3) fullShare d)
          ∗ (∃ d, owns (c : Thread nD τ) (Memref.whole cc0_scratch4) fullShare d)) ∗ (∃ r, prngReg c r)) := by
  unfold Pipeline.ΦA; rw [scopedRest0_eq]; simp only [owns_whole]; try rfl

theorem sound_body (hk : KeysReal m) (c : Dev nD) (t : Fin cfg0.N) :
    iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))
    ⊢ wp frame (wpE (defs₀ (F := Ideal)) Variants.none c none) Set.univ (bodyAt0 t) (fun _ =>
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))) := by
  unfold bodyAt0
  simp only [before_0 m, before_1 m, before_2 m, before_3 m, before_4 m, before_5 m, before_6 m]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  rw [show (dats m 0 c).Φ t.castSucc = Pipeline.ΦA spec0 c from rfl, PhiA_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (Gqa.body_value c (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _ (hk c t))
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [S0]; · iexact S0
  isplitl [S1]; · iexact S1
  isplitl [S2]; · iexact S2
  isplitl [S3]; · iexact S3
  isplitl [S4]; · iexact S4
  iintro ⟨H0, H1, H2, H3, H4, H5, H6, H7, S0, S1, S2, S3, S4⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem body_obligation (hk : KeysReal m) (c : Dev nD) :
    BodyObligation (dats m 0 c) (defs₀ (F := Ideal)) Variants.none () Set.univ := fun t => by
  rw [bigSep_W0, bigSep_W0]
  exact sound_body m hk c t

set_option backward.isDefEq.respectTransparency.types false in
/-- The launch: the arrays after the run are the ones that the proof data gives. -/
theorem run_main (hk : KeysReal m) : θ_run defs (onTc (τ := τ) (main (F := Ideal))) (s₀ m ρ) (Pipeline.FramePost cfgs (dats m) 0 (V m)) :=
  Pipeline.θ_run_frame_shared (Q' := _) cfgs (dats m) (0 : Fin 1) launch₀0 defs₀ Variants.none m ρ main
    (hbody := fun c => (body_obligation m hk c).loose) (hq := fun _ _ _ => rfl)
    (howed := fun _ _ => rfl) (V := V m) (hmain := hmain m Variants.none) (hA := A_eq m) (hΦ := fun _ _ => rfl)

/-- The run, its result named and its arguments unchanged. -/
theorem run_blocks (hk : KeysReal m) : θ_run defs (onTc (τ := τ) (main (F := Ideal))) ⟨m, fun _ => 0, ρ⟩ (fun r => ∀ c : Dev nD,
      r.2.mem ((c.tc : Thread nD τ).loc main_v97) = (dats m 0 c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 7, ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c),
     ((h c).2 main_arg4 (Pipeline.mem_restRefs_of main_arg4 (by decide) (by decide))).trans (V_main_arg4 m c),
     ((h c).2 main_arg5 (Pipeline.mem_restRefs_of main_arg5 (by decide) (by decide))).trans (V_main_arg5 m c)⟩) (run_main m ρ hk)

end Cert.Proof.GqaLaunch

end
-- ==== Proof.GqaHost.lean ====
/- The attention call's seven input blocks, as functions of the arguments. -/
module

public import proofs.«01_k».proof.Proof.GqaLaunch
public import Idealize.ShloMosaic.Lib.StableHlo.RunRead

@[expose] public section

set_option maxRecDepth 16384

noncomputable section

namespace Cert.Proof.GqaHost

open Idealize.ShloMosaic Idealize.ShloMosaic.TcCoe Idealize.SL.Sem
open Cert.KernelIdeal Cert.KernelIdeal.Gen

variable (m : (ℓ : Loc nD τ sig) → Buf (Elt Ideal) ℓ)

theorem idx : ∀ t : Fin cfg0.N, win0_0.index t = ![t.val, 0, 6] ∧ win0_1.index t = ![t.val, 0, 16]
    ∧ win0_2.index t = ![t.val, 0, 17] ∧ win0_3.index t = ![0, 0, 0] ∧ win0_4.index t = ![0, 0, 0] ∧ win0_5.index t = ![0, 0]
    ∧ win0_6.index t = ![0, 0] ∧ win0_7.index t = ![t.val, 0, 0] :=
  (by decide +kernel : ∀ t : Fin grid0.N, _)

theorem ofBuf_c_6 (h1 h2 h3) (v : BufTy.Contents (Elt Ideal) _) : (StableHlo.TRef.of main_c_6 h1 h2 h3 : StableHlo.TRef sig _).ofBuf (Val := Elt Ideal) v = v := rfl
theorem ofBuf_c_7 (h1 h2 h3) (v : BufTy.Contents (Elt Ideal) _) : (StableHlo.TRef.of main_c_7 h1 h2 h3 : StableHlo.TRef sig _).ofBuf (Val := Elt Ideal) v = v := rfl
theorem ofBuf_v4 (h1 h2 h3) (v : BufTy.Contents (Elt Ideal) _) : (StableHlo.TRef.of main_v4 h1 h2 h3 : StableHlo.TRef sig _).ofBuf (Val := Elt Ideal) v = v := rfl
theorem toBuf_v15 (h1 h2 h3) (v : BufTy.Contents (Elt Ideal) ⟨S2048, .i32⟩) : (StableHlo.TRef.of main_v15 h1 h2 h3 : StableHlo.TRef sig _).toBuf (Val := Elt Ideal) v = v := rfl
theorem toBuf_v23 (h1 h2 h3) (v : BufTy.Contents (Elt Ideal) ⟨S2048, .i32⟩) : (StableHlo.TRef.of main_v23 h1 h2 h3 : StableHlo.TRef sig _).toBuf (Val := Elt Ideal) v = v := rfl

set_option maxHeartbeats 2000000 in
theorem read0 (c : Dev nD) (t : Fin cfg0.N) (s : Fin 2048) (k : Fin 256) :
    iblk m c 0 t (ix3 0 s k) = m ((c : Thread nD τ).loc main_arg1) (ix3 ⟨t.val, t.isLt⟩ s k) := by
  blk_simp [iblk]; after_reads_simp
  rw [show ((View.whole main_v3).slice (win0_0.rect t)).emb (ix3 (0 : Fin 1) s k) = ix3 (⟨t.val, t.isLt⟩ : Fin 32) s (⟨1536 + k.val, by omega⟩ : Fin 2560) from by blk_ext [idx t]]
  pointwise

set_option maxHeartbeats 2000000 in
theorem read1 (c : Dev nD) (t : Fin cfg0.N) (s : Fin 2048) (k : Fin 128) :
    iblk m c 1 t (ix3 0 s k) = m ((c : Thread nD τ).loc main_arg2) (ix3 ⟨t.val, t.isLt⟩ s k) := by
  blk_simp [iblk]; after_reads_simp
  rw [show ((View.whole main_v3).slice (win0_1.rect t)).emb (ix3 (0 : Fin 1) s k) = ix3 (⟨t.val, t.isLt⟩ : Fin 32) s (⟨2048 + k.val, by omega⟩ : Fin 2560) from by blk_ext [idx t]]
  pointwise
  rw [dif_neg (show ¬ 2048 + k.val < 1536 by omega), dif_neg (show ¬ 2048 + k.val - 1536 < 256 by omega), dif_neg (show ¬ 2048 + k.val - 1536 - 256 < 256 by omega), dif_pos (show 2048 + k.val - 1536 - 256 - 256 < 128 by omega)]
  exact congrArg (fun e => m ((c : Thread nD τ).loc main_arg2) (ix3 ⟨t.val, t.isLt⟩ s e)) (Fin.ext (by dsimp only; omega))

set_option maxHeartbeats 2000000 in
theorem read2 (c : Dev nD) (t : Fin cfg0.N) (s : Fin 2048) (k : Fin 128) :
    iblk m c 2 t (ix3 0 s k) = m ((c : Thread nD τ).loc main_arg3) (ix3 ⟨t.val, t.isLt⟩ s k) := by
  blk_simp [iblk]; after_reads_simp
  rw [show ((View.whole main_v3).slice (win0_2.rect t)).emb (ix3 (0 : Fin 1) s k) = ix3 (⟨t.val, t.isLt⟩ : Fin 32) s (⟨2176 + k.val, by omega⟩ : Fin 2560) from by blk_ext [idx t]]
  pointwise
  rw [dif_neg (show ¬ 2176 + k.val < 1536 by omega), dif_neg (show ¬ 2176 + k.val - 1536 < 256 by omega), dif_neg (show ¬ 2176 + k.val - 1536 - 256 < 256 by omega),
    dif_neg (show ¬ 2176 + k.val - 1536 - 256 - 256 < 128 by omega), dif_pos (show 2176 + k.val - 1536 - 256 - 256 - 128 < 128 by omega)]
  exact congrArg (fun e => m ((c : Thread nD τ).loc main_arg3) (ix3 ⟨t.val, t.isLt⟩ s e)) (Fin.ext (by dsimp only; omega))

/-- The angle of position `s` at feature `d`: its row in the grid for the first half of the features, its column for the second. -/
def ang (s : ℕ) (d : ℕ) : EReal :=
  FloatOps.sitofp (F := Ideal) .f32 (BitVec.ofNat 32 (if d < 32 then s / 64 else s % 64))
    * Ideal.pow (Ideal.ofBits .f32 0x461C4000#32)
      (Ideal.div (-(Ideal.ofBits .f32 0x40000000#32 * FloatOps.sitofp (F := Ideal) .f32 (BitVec.ofNat 32 (d % 16)))) (Ideal.ofBits .f32 0x42000000#32))

/-- The sign of an integer, as the program computes it. -/
def isgn {w : ℕ} (b : BitVec w) : BitVec w := if b = 0 then 0 else if b.msb then -1 else 1

theorem isgn_of {w : ℕ} (b : BitVec w) : (if b = 0 then 0 else if b.msb then -1 else 1) = isgn b := rfl

/-- The position's row, as the program computes it. -/
theorem row_of : ∀ n : ℕ, n < 2048 → Scalar.select
      (IntOp.andi (IntOp.cmpi CmpIPredicate.ne (isgn (BitVec.ofNat 32 n)) (isgn 64#32))
        (IntOp.cmpi CmpIPredicate.ne (IntOp.remsi ArithUnit.host (BitVec.ofNat 32 n) 64#32) 0#32))
      (IntOp.subi (IntOp.divsi ArithUnit.host (BitVec.ofNat 32 n) 64#32) 1#32)
      (IntOp.divsi ArithUnit.host (BitVec.ofNat 32 n) 64#32) = BitVec.ofNat 32 (n / 64) := by decide +kernel

/-- The position's column, as the program computes it. -/
theorem col_of : ∀ n : ℕ, n < 2048 → Scalar.select
      (IntOp.andi
        (IntOp.cmpi CmpIPredicate.ne
          (IntOp.cmpi CmpIPredicate.slt (IntOp.remsi ArithUnit.host (BitVec.ofNat 32 n) (Scalar.select (IntOp.cmpi CmpIPredicate.eq 64#32 0#32) 1#32 64#32)) 0#32)
          (IntOp.cmpi CmpIPredicate.slt (Scalar.select (IntOp.cmpi CmpIPredicate.eq 64#32 0#32) 1#32 64#32) 0#32))
        (IntOp.cmpi CmpIPredicate.ne (IntOp.remsi ArithUnit.host (BitVec.ofNat 32 n) (Scalar.select (IntOp.cmpi CmpIPredicate.eq 64#32 0#32) 1#32 64#32)) 0#32))
      (IntOp.addi (IntOp.remsi ArithUnit.host (BitVec.ofNat 32 n) (Scalar.select (IntOp.cmpi CmpIPredicate.eq 64#32 0#32) 1#32 64#32))
        (Scalar.select (IntOp.cmpi CmpIPredicate.eq 64#32 0#32) 1#32 64#32))
      (IntOp.remsi ArithUnit.host (BitVec.ofNat 32 n) (Scalar.select (IntOp.cmpi CmpIPredicate.eq 64#32 0#32) 1#32 64#32)) = BitVec.ofNat 32 (n % 64) := by
  decide +kernel

/-- The four cases of the angle. -/
theorem ang_cases (n e : ℕ) (he : e < 64) (R C : BitVec 32) (hR : R = BitVec.ofNat 32 (n / 64)) (hC : C = BitVec.ofNat 32 (n % 64)) : (if h : e < 32 then
      if h_1 : e < 16 then FloatOps.sitofp (F := Ideal) .f32 R * Ideal.pow (Ideal.ofBits .f32 0x461C4000#32)
        (Ideal.div (-(Ideal.ofBits .f32 0x40000000#32 * FloatOps.sitofp (F := Ideal) .f32 (BitVec.ofNat 32 e))) (Ideal.ofBits .f32 0x42000000#32))
      else FloatOps.sitofp (F := Ideal) .f32 R * Ideal.pow (Ideal.ofBits .f32 0x461C4000#32)
        (Ideal.div (-(Ideal.ofBits .f32 0x40000000#32 * FloatOps.sitofp (F := Ideal) .f32 (BitVec.ofNat 32 (e - 16)))) (Ideal.ofBits .f32 0x42000000#32))
    else
      if h : e - 32 < 16 then FloatOps.sitofp (F := Ideal) .f32 C * Ideal.pow (Ideal.ofBits .f32 0x461C4000#32)
        (Ideal.div (-(Ideal.ofBits .f32 0x40000000#32 * FloatOps.sitofp (F := Ideal) .f32 (BitVec.ofNat 32 (e - 32)))) (Ideal.ofBits .f32 0x42000000#32))
      else FloatOps.sitofp (F := Ideal) .f32 C * Ideal.pow (Ideal.ofBits .f32 0x461C4000#32)
        (Ideal.div (-(Ideal.ofBits .f32 0x40000000#32 * FloatOps.sitofp (F := Ideal) .f32 (BitVec.ofNat 32 (e - 32 - 16)))) (Ideal.ofBits .f32 0x42000000#32)))
    = ang n e := by
  subst hR hC
  unfold ang
  split_ifs with h h'
  · rw [show e % 16 = e from Nat.mod_eq_of_lt h']
  · rw [show e % 16 = e - 16 by omega]
  · rw [show e % 16 = e - 32 by omega]
  · rw [show e % 16 = e - 32 - 16 by omega]

/-- The gains of the queries' and of the keys' norms. -/
abbrev qg (c : Dev nD) : S64.Idx → EReal := m ((c : Thread nD τ).loc main_arg4)
abbrev kg (c : Dev nD) : S64.Idx → EReal := m ((c : Thread nD τ).loc main_arg5)

/-- The gather of entries of a vector, read at an index. -/
theorem gather_entries (x : FVec Ideal S64 .f32) (idx : IVec S64x1 32) (j : Fin 64) :
    Host.gather gather_S64_S64x1_S64_n_0_n_n_0_1_1 x idx (ix1 j) = x (ix1 ⟨min (idx (ix2 j 0)).toInt.toNat 63, by omega⟩) := by
  unfold Host.gather
  congr 1
  funext a
  obtain rfl : a = 0 := Subsingleton.elim _ _
  refine Fin.ext ?_
  show GatherDims.start gather_S64_S64x1_S64_n_0_n_n_0_1_1 (ix1 j) idx 0 + GatherDims.batchCoord gather_S64_S64x1_S64_n_0_n_n_0_1_1 (ix1 j) 0
    + GatherDims.offCoord gather_S64_S64x1_S64_n_0_n_n_0_1_1 (ix1 j) 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 1) ∈ gather_S64_S64x1_S64_n_0_n_n_0_1_1.startIndexMap from List.mem_singleton.mpr rfl)]
  have hsi : GatherDims.siIdx gather_S64_S64x1_S64_n_0_n_n_0_1_1 (ix1 j)
      ⟨List.idxOf (0 : Fin 1) [(0 : Fin 1)], List.idxOf_lt_length_iff.2 (List.mem_singleton.mpr rfl)⟩ = ix2 j 0 := by
    funext b; refine Fin.ext ?_
    match b with
    | ⟨0, _⟩ => rfl
    | ⟨1, _⟩ => rfl
  exact congrArg (fun i => min (idx i).toInt.toNat 63) hsi

theorem source : ∀ i : Fin 64, min (lit0 (S64.rowMajor (ix1 i))).toInt.toNat 63 = (Gqa.sw i).val := by decide +kernel

theorem sign_lit : ∀ e : Fin 128, lit1 (S128.rowMajor (ix1 e)) = if e.val % 32 < 16 then 0xBF800000#32 else 0x3F800000#32 := by decide +kernel

/-- The sign of a rotated feature. -/
def sgn (e : ℕ) : EReal := if e % 32 < 16 then -1 else 1

theorem sign_of (e : Fin 128) : Ideal.ofBits .f32 (lit1 (S128.rowMajor (ix1 e))) = sgn e.val := by
  rw [sign_lit]; unfold sgn
  split_ifs
  · exact bits_neg_one
  · exact Ideal.ofBits_one_f32

theorem source_of (x : S64.Idx → EReal) (i : Fin 64) (h : min (lit0 (S64.rowMajor (ix1 i))).toInt.toNat 63 < 64) :
    x (ix1 ⟨min (lit0 (S64.rowMajor (ix1 i))).toInt.toNat 63, h⟩) = x (ix1 (Gqa.sw i)) :=
  congrArg (fun k => x (ix1 k)) (Fin.ext (source i))

set_option maxHeartbeats 2000000 in
theorem read3 (c : Dev nD) (t : Fin cfg0.N) (s : Fin 2048) (e : Fin 128) :
    iblk m c 3 t (ix3 (⟨s.val / 256, by omega⟩ : Fin 8) e (⟨s.val % 256, by omega⟩ : Fin 256)) = qg m c (ix1 (⟨e.val % 64, by omega⟩ : Fin 64)) * Ideal.cos (ang s.val (e.val % 64)) := by
  blk_simp [iblk]; after_reads_simp
  rw [show ((View.whole main_v83).slice (win0_3.rect t)).emb (ix3 (⟨s.val / 256, by omega⟩ : Fin 8) e (⟨s.val % 256, by omega⟩ : Fin 256)) = ix3 (⟨s.val / 256, by omega⟩ : Fin 8) e (⟨s.val % 256, by omega⟩ : Fin 256) from by blk_ext [idx t]]
  pointwise
  after_reads_simp
  simp only [StableHlo.TRef.ofBuf_toBuf, ofBuf_c_6, ofBuf_c_7, ofBuf_v4, toBuf_v15, toBuf_v23, id_eq]
  pointwise [gather_entries]
  simp (disch := omega) only [Nat.div_add_mod', col_of, sign_of, source_of]
  refine congrArg (fun z : EReal => qg m c (ix1 (⟨e.val % 64, by omega⟩ : Fin 64)) * Ideal.cos z) ?_
  exact ang_cases s.val (e.val % 64) (by omega) _ _ (row_of _ (by omega)) rfl

set_option maxHeartbeats 2000000 in
theorem read4 (c : Dev nD) (t : Fin cfg0.N) (s : Fin 2048) (e : Fin 128) :
    iblk m c 4 t (ix3 (⟨s.val / 256, by omega⟩ : Fin 8) e (⟨s.val % 256, by omega⟩ : Fin 256)) = qg m c (ix1 (Gqa.sw ⟨e.val % 64, by omega⟩)) * sgn e.val * Ideal.sin (ang s.val (e.val % 64)) := by
  blk_simp [iblk]; after_reads_simp
  rw [show ((View.whole main_v90).slice (win0_4.rect t)).emb (ix3 (⟨s.val / 256, by omega⟩ : Fin 8) e (⟨s.val % 256, by omega⟩ : Fin 256)) = ix3 (⟨s.val / 256, by omega⟩ : Fin 8) e (⟨s.val % 256, by omega⟩ : Fin 256) from by blk_ext [idx t]]
  pointwise
  after_reads_simp
  simp only [StableHlo.TRef.ofBuf_toBuf, ofBuf_c_6, ofBuf_c_7, ofBuf_v4, toBuf_v15, toBuf_v23, id_eq]
  pointwise [gather_entries]
  simp (disch := omega) only [Nat.div_add_mod', col_of, sign_of, source_of]
  refine congrArg (fun z : EReal => qg m c (ix1 (Gqa.sw ⟨e.val % 64, by omega⟩)) * sgn e.val * Ideal.sin z) ?_
  exact ang_cases s.val (e.val % 64) (by omega) _ _ (row_of _ (by omega)) rfl

set_option maxHeartbeats 2000000 in
theorem read5 (c : Dev nD) (t : Fin cfg0.N) (s : Fin 2048) (e : Fin 128) :
    iblk m c 5 t (ix2 s e) = kg m c (ix1 (⟨e.val % 64, by omega⟩ : Fin 64)) * Ideal.cos (ang s.val (e.val % 64)) := by
  blk_simp [iblk]; after_reads_simp
  rw [show ((View.whole main_v92).slice (win0_5.rect t)).emb (ix2 s e) = ix2 s e from by blk_ext [idx t]]
  pointwise
  after_reads_simp
  simp only [StableHlo.TRef.ofBuf_toBuf, ofBuf_c_6, ofBuf_c_7, ofBuf_v4, toBuf_v15, toBuf_v23, id_eq]
  pointwise [gather_entries]
  simp (disch := omega) only [col_of, sign_of, source_of]
  refine congrArg (fun z : EReal => kg m c (ix1 (⟨e.val % 64, by omega⟩ : Fin 64)) * Ideal.cos z) ?_
  exact ang_cases s.val (e.val % 64) (by omega) _ _ (row_of _ (by omega)) rfl

set_option maxHeartbeats 2000000 in
theorem read6 (c : Dev nD) (t : Fin cfg0.N) (s : Fin 2048) (e : Fin 128) :
    iblk m c 6 t (ix2 s e) = kg m c (ix1 (Gqa.sw ⟨e.val % 64, by omega⟩)) * sgn e.val * Ideal.sin (ang s.val (e.val % 64)) := by
  blk_simp [iblk]; after_reads_simp
  rw [show ((View.whole main_v96).slice (win0_6.rect t)).emb (ix2 s e) = ix2 s e from by blk_ext [idx t]]
  pointwise
  after_reads_simp
  simp only [StableHlo.TRef.ofBuf_toBuf, ofBuf_c_6, ofBuf_c_7, ofBuf_v4, toBuf_v15, toBuf_v23, id_eq]
  pointwise [gather_entries]
  simp (disch := omega) only [col_of, sign_of, source_of]
  refine congrArg (fun z : EReal => kg m c (ix1 (Gqa.sw ⟨e.val % 64, by omega⟩)) * sgn e.val * Ideal.sin z) ?_
  exact ang_cases s.val (e.val % 64) (by omega) _ _ (row_of _ (by omega)) rfl

end Cert.Proof.GqaHost
-- ==== Proof.GqaRef.lean ====
/- The reference of the attention call, read at a position and a feature: the rotated keys and queries, the scores and the softmax. -/
module

public import proofs.«01_k».proof.Proof.Gen.ReferenceIdeal.Read
public import proofs.«01_k».proof.Proof.GqaHost
public import proofs.«01_k».proof.Proof.GqaMath

@[expose] public section

set_option maxRecDepth 16384

noncomputable section

namespace Cert.Proof.GqaRef

open Idealize.ShloMosaic Idealize.ShloMosaic.TcCoe Idealize.SL.Sem
open Cert.ReferenceIdeal Cert.ReferenceIdeal.Read
open Cert.Proof.GqaHost (ang row_of col_of)
open Cert.Proof.Gqa (nv roped sw sw_val)

variable (x1 : (⟨S32x2048x256, .f32⟩ : BufTy).Contents (Elt Ideal)) (x2 x3 : (⟨S32x2048x128, .f32⟩ : BufTy).Contents (Elt Ideal))
  (x4 x5 : (⟨S64, .f32⟩ : BufTy).Contents (Elt Ideal))

theorem ref_row (s : Fin 2048) : val_main_v1 (F := Ideal) (ix1 s) = BitVec.ofNat 32 (s.val / 64) := by
  pointwise [val_main_v1, val_main_call0_v0, val_main_call0_v1, val_main_call0_v2, val_main_call0_v3, val_main_call0_v4, val_main_call0_v5, val_main_call0_v6,
    val_main_call0_v7, val_main_call0_v8, val_main_call0_c, val_main_call0_v9, val_main_call0_v10, val_main_call0_v11, val_main_call0_c_0,
    val_main_call0_v12, val_main_call0_v13, val_main_v0, val_main_c]
  exact row_of s.val s.isLt

theorem ref_col (s : Fin 2048) : val_main_v2 (F := Ideal) (ix1 s) = BitVec.ofNat 32 (s.val % 64) := by
  pointwise [val_main_v2, val_main_call1_v0, val_main_call1_c, val_main_call1_v1, val_main_call1_c_0, val_main_call1_v2, val_main_call1_v3, val_main_call1_v4,
    val_main_call1_c_1, val_main_call1_v5, val_main_call1_v6, val_main_call1_c_2, val_main_call1_v7, val_main_call1_v8, val_main_call1_c_3,
    val_main_call1_v9, val_main_call1_v10, val_main_call1_v11, val_main_call1_v12, val_main_call1_v13, val_main_call1_v14, val_main_v0, val_main_c_0]
  exact col_of s.val s.isLt

theorem zero_bits : Ideal.ofBits .f32 0x00000000#32 = 0 := by simp [Ideal.ofBits, Ideal.ieee]

theorem ref_ang35 (s : Fin 2048) (e : Fin 32) : val_main_v35 (F := Ideal) (ix2 s e) = ang s.val e.val := by
  pointwise [val_main_v19, val_main_cst_3, val_main_v20, val_main_v21, val_main_cst_4, val_main_v22, val_main_v23, val_main_v24, val_main_cst_5, val_main_v25,
    val_main_v26, val_main_cst_6, val_main_v27, val_main_v28, val_main_v29, val_main_v30, val_main_v31, val_main_v32, val_main_v33, val_main_v34,
    val_main_v35]
  simp only [ref_row, zero_add, zero_bits]
  unfold ang
  rw [if_pos (show e.val < 32 by omega)]
  split_ifs with h
  · rw [show e.val % 16 = e.val by omega]
  · rw [show e.val % 16 = e.val - 16 by omega]

theorem ref_ang66 (s : Fin 2048) (e : Fin 32) : val_main_v66 (F := Ideal) (ix2 s e) = ang s.val (32 + e.val) := by
  pointwise [val_main_v50, val_main_cst_7, val_main_v51, val_main_v52, val_main_cst_8, val_main_v53, val_main_v54, val_main_v55, val_main_cst_9, val_main_v56,
    val_main_v57, val_main_cst_10, val_main_v58, val_main_v59, val_main_v60, val_main_v61, val_main_v62, val_main_v63, val_main_v64, val_main_v65,
    val_main_v66]
  simp only [ref_col, zero_add, zero_bits]
  unfold ang
  rw [if_neg (show ¬ (32 + e.val) < 32 by omega)]
  split_ifs with h
  · rw [show (32 + e.val) % 16 = e.val by omega]
  · rw [show (32 + e.val) % 16 = e.val - 16 by omega]

theorem ref_ang113 (s : Fin 2048) (e : Fin 32) : val_main_v113 (F := Ideal) (ix2 s e) = ang s.val e.val := by
  pointwise [val_main_v97, val_main_cst_14, val_main_v98, val_main_v99, val_main_cst_15, val_main_v100, val_main_v101, val_main_v102, val_main_cst_16,
    val_main_v103, val_main_v104, val_main_cst_17, val_main_v105, val_main_v106, val_main_v107, val_main_v108, val_main_v109, val_main_v110,
    val_main_v111, val_main_v112, val_main_v113]
  simp only [ref_row, zero_add, zero_bits]
  unfold ang
  rw [if_pos (show e.val < 32 by omega)]
  split_ifs with h
  · rw [show e.val % 16 = e.val by omega]
  · rw [show e.val % 16 = e.val - 16 by omega]

theorem ref_ang144 (s : Fin 2048) (e : Fin 32) : val_main_v144 (F := Ideal) (ix2 s e) = ang s.val (32 + e.val) := by
  pointwise [val_main_v128, val_main_cst_18, val_main_v129, val_main_v130, val_main_cst_19, val_main_v131, val_main_v132, val_main_v133, val_main_cst_20,
    val_main_v134, val_main_v135, val_main_cst_21, val_main_v136, val_main_v137, val_main_v138, val_main_v139, val_main_v140, val_main_v141,
    val_main_v142, val_main_v143, val_main_v144]
  simp only [ref_col, zero_add, zero_bits]
  unfold ang
  rw [if_neg (show ¬ (32 + e.val) < 32 by omega)]
  split_ifs with h
  · rw [show (32 + e.val) % 16 = e.val by omega]
  · rw [show (32 + e.val) % 16 = e.val - 16 by omega]

/-- The four cases of the rotation. -/
theorem rope_cases (x g : Fin 64 → EReal) (n : ℕ) (d : Fin 64) :
    (if h1 : d.val < 32 then
      nv x g d * Ideal.cos (ang n d.val)
        + (if h2 : d.val < 16 then -nv x g ⟨16 + d.val, by omega⟩ else nv x g ⟨d.val - 16, by omega⟩) * Ideal.sin (ang n d.val)
    else
      nv x g ⟨32 + (d.val - 32), by omega⟩ * Ideal.cos (ang n (32 + (d.val - 32)))
        + (if h2 : d.val - 32 < 16 then -nv x g ⟨32 + (16 + (d.val - 32)), by omega⟩ else nv x g ⟨32 + (d.val - 32 - 16), by omega⟩)
          * Ideal.sin (ang n (32 + (d.val - 32))))
    = roped x g (Ideal.cos (ang n d.val)) (Ideal.sin (ang n d.val)) d := by
  unfold roped
  have hs := sw_val d
  by_cases hb : d.val % 32 < 16
  on_goal 1 => rw [if_pos hb] at hs ⊢
  on_goal 2 => rw [if_neg hb] at hs ⊢
  all_goals by_cases h1 : d.val < 32
  · rw [dif_pos h1, dif_pos (show d.val < 16 by omega), show (⟨16 + d.val, by omega⟩ : Fin 64) = sw d from Fin.ext (by dsimp only; omega)]
  · have he : 32 + (d.val - 32) = d.val := by omega
    simp only [he]
    rw [dif_neg h1, dif_pos (show d.val - 32 < 16 by omega), show (⟨32 + (16 + (d.val - 32)), by omega⟩ : Fin 64) = sw d from Fin.ext (by dsimp only; omega)]
  · rw [dif_pos h1, dif_neg (show ¬ d.val < 16 by omega), show (⟨d.val - 16, by omega⟩ : Fin 64) = sw d from Fin.ext (by dsimp only; omega)]
  · have he : 32 + (d.val - 32) = d.val := by omega
    simp only [he]
    rw [dif_neg h1, dif_neg (show ¬ d.val - 32 < 16 by omega), show (⟨32 + (d.val - 32 - 16), by omega⟩ : Fin 64) = sw d from Fin.ext (by dsimp only; omega)]

theorem q_split (b : Fin 32) (h : Fin 4) (s : Fin 2048) (d : Fin 64) :
    val_main_v4 (F := Ideal) x1 (ix4 b h s d) = x1 (ix3 b s (⟨64 * h.val + d.val, by omega⟩ : Fin 256)) := by
  pointwise [val_main_v4, val_main_v3]
  exact congrArg (fun e => x1 (ix3 b s e)) (Fin.ext (by dsimp only; omega))

theorem q_norm (b : Fin 32) (h : Fin 4) (s : Fin 2048) (d : Fin 64) :
    val_main_v17 (F := Ideal) x1 x4 (ix4 b h s d) = nv (fun k => x1 (ix3 b s (⟨64 * h.val + k.val, by omega⟩ : Fin 256))) (fun k => x4 (ix1 k)) d := by
  pointwise [val_main_v5, val_main_cst, val_main_v6, val_main_v7, val_main_cst_1, val_main_v8, val_main_v9, val_main_cst_2, val_main_v10, val_main_v11,
    val_main_v12, val_main_v13, val_main_v14, val_main_v15, val_main_v16, val_main_v17]
  simp only [q_split, zero_bits, zero_add]
  rfl

theorem q_rope (b : Fin 32) (h : Fin 4) (s : Fin 2048) (d : Fin 64) :
    val_main_v80 (F := Ideal) x1 x4 (ix4 b h s d) = roped (fun k => x1 (ix3 b s (⟨64 * h.val + k.val, by omega⟩ : Fin 256))) (fun k => x4 (ix1 k)) (Ideal.cos (ang s.val d.val)) (Ideal.sin (ang s.val d.val)) d := by
  pointwise [val_main_v18, val_main_v36, val_main_v37, val_main_v38, val_main_v39, val_main_v40, val_main_v41, val_main_v42, val_main_v43, val_main_v44,
    val_main_v45, val_main_v46, val_main_v47, val_main_v48, val_main_v49, val_main_v67, val_main_v68, val_main_v69, val_main_v70, val_main_v71,
    val_main_v72, val_main_v73, val_main_v74, val_main_v75, val_main_v76, val_main_v77, val_main_v78, val_main_v79, val_main_v80]
  simp only [ref_ang35, ref_ang66, q_norm]
  exact rope_cases _ _ _ _

theorem k_split (b : Fin 32) (h : Fin 2) (s : Fin 2048) (d : Fin 64) :
    val_main_v82 (F := Ideal) x2 (ix4 b h s d) = x2 (ix3 b s (⟨64 * h.val + d.val, by omega⟩ : Fin 128)) := by
  pointwise [val_main_v82, val_main_v81]
  exact congrArg (fun e => x2 (ix3 b s e)) (Fin.ext (by dsimp only; omega))

theorem k_norm (b : Fin 32) (h : Fin 2) (s : Fin 2048) (d : Fin 64) :
    val_main_v95 (F := Ideal) x2 x5 (ix4 b h s d) = nv (fun k => x2 (ix3 b s (⟨64 * h.val + k.val, by omega⟩ : Fin 128))) (fun k => x5 (ix1 k)) d := by
  pointwise [val_main_v83, val_main_cst_11, val_main_v84, val_main_v85, val_main_cst_12, val_main_v86, val_main_v87, val_main_cst_13, val_main_v88,
    val_main_v89, val_main_v90, val_main_v91, val_main_v92, val_main_v93, val_main_v94, val_main_v95]
  simp only [k_split, zero_bits, zero_add]
  rfl

theorem k_rope (b : Fin 32) (h : Fin 2) (s : Fin 2048) (d : Fin 64) :
    val_main_v158 (F := Ideal) x2 x5 (ix4 b h s d) = roped (fun k => x2 (ix3 b s (⟨64 * h.val + k.val, by omega⟩ : Fin 128))) (fun k => x5 (ix1 k)) (Ideal.cos (ang s.val d.val)) (Ideal.sin (ang s.val d.val)) d := by
  pointwise [val_main_v96, val_main_v114, val_main_v115, val_main_v116, val_main_v117, val_main_v118, val_main_v119, val_main_v120, val_main_v121,
    val_main_v122, val_main_v123, val_main_v124, val_main_v125, val_main_v126, val_main_v127, val_main_v145, val_main_v146, val_main_v147,
    val_main_v148, val_main_v149, val_main_v150, val_main_v151, val_main_v152, val_main_v153, val_main_v154, val_main_v155, val_main_v156,
    val_main_v157, val_main_v158]
  simp only [ref_ang113, ref_ang144, k_norm]
  exact rope_cases _ _ _ _

end Cert.Proof.GqaRef
-- ==== Proof.GqaSoft.lean ====
/- The reference's scores, softmax and result, read at an index. -/
module

public import proofs.«01_k».proof.Proof.GqaRef

@[expose] public section

set_option maxRecDepth 16384

noncomputable section

namespace Cert.Proof.GqaRef

open Idealize.ShloMosaic Idealize.ShloMosaic.TcCoe Idealize.SL.Sem
open Cert.ReferenceIdeal Cert.ReferenceIdeal.Read

variable (x1 : (⟨S32x2048x256, .f32⟩ : BufTy).Contents (Elt Ideal)) (x2 x3 : (⟨S32x2048x128, .f32⟩ : BufTy).Contents (Elt Ideal))
  (x4 x5 : (⟨S64, .f32⟩ : BufTy).Contents (Elt Ideal))

theorem ref_group (b : Fin 32) (g p : Fin 2) (s : Fin 2048) (d : Fin 64) :
    val_main_v161 (F := Ideal) x1 x4 (ix5 b g p s d) = val_main_v80 (F := Ideal) x1 x4 (ix4 b (⟨2 * g.val + p.val, by omega⟩ : Fin 4) s d) := by
  pointwise [val_main_v161]
  exact congrArg (fun h => val_main_v80 (F := Ideal) x1 x4 (ix4 b h s d)) (Fin.ext (by dsimp only; omega))

theorem ref_score (b : Fin 32) (g p : Fin 2) (s k : Fin 2048) :
    val_main_v164 (F := Ideal) x1 x2 x4 x5 (ix5 b g p s k) =
      (∑ d : Fin 64, val_main_v80 (F := Ideal) x1 x4 (ix4 b (⟨2 * g.val + p.val, by omega⟩ : Fin 4) s d) * val_main_v158 (F := Ideal) x2 x5 (ix4 b g k d))
        * Ideal.ofBits .f32 0x3E000000#32 := by
  rw [val_main_v164_apply, val_main_v162_apply]
  refine congrArg₂ (fun u v : EReal => u * v) (Finset.sum_congr rfl fun d _ => ?_) ?_
  · rw [show lidx_main_v162 (ix5 b g p s k) d = ix5 b g p s d from by idx_ext,
      show ridx_main_v162 (ix5 b g p s k) d = ix4 b g k d from by idx_ext, ref_group]
  · pointwise [val_main_v163, val_main_cst_22]

theorem ref_rowmax (b : Fin 32) (g p : Fin 2) (s : Fin 2048) (w : EReal)
    (hw : Finset.fold max (Ideal.ofBits .f32 0xFF800000#32) (fun k => val_main_v164 (F := Ideal) x1 x2 x4 x5 (ix5 b g p s k)) Finset.univ = w) :
    val_main_v165 (F := Ideal) x1 x2 x4 x5 (ix4 b g p s) = w := by
  pointwise [val_main_v165, val_main_cst_23]
  exact hw

theorem ref_max (b : Fin 32) (g p : Fin 2) (s : Fin 2048) :
    val_main_v167 (F := Ideal) x1 x2 x4 x5 (ix4 b g p s) = max (Ideal.ofBits .f32 0xFF800000#32) (val_main_v165 (F := Ideal) x1 x2 x4 x5 (ix4 b g p s)) := by
  rw [val_main_v167_apply]
  generalize val_main_v165 (F := Ideal) x1 x2 x4 x5 (ix4 b g p s) = u
  pointwise [val_main_v166, val_main_cst_24]

theorem ref_weight (b : Fin 32) (g p : Fin 2) (s k : Fin 2048) :
    val_main_v171 (F := Ideal) x1 x2 x4 x5 (ix5 b g p s k) =
      Ideal.exp (val_main_v164 (F := Ideal) x1 x2 x4 x5 (ix5 b g p s k) - val_main_v167 (F := Ideal) x1 x2 x4 x5 (ix4 b g p s)) := by
  rw [val_main_v171_apply, val_main_v170_apply, val_main_v169_apply, val_main_v168_apply,
    show idx_main_v168 (idx_main_v169 (ix5 b g p s k)) = ix4 b g p s from by idx_ext]
  generalize val_main_v164 (F := Ideal) x1 x2 x4 x5 (ix5 b g p s k) = u
  generalize val_main_v167 (F := Ideal) x1 x2 x4 x5 (ix4 b g p s) = w
  rfl

theorem ref_quot (b : Fin 32) (g p : Fin 2) (s k : Fin 2048) :
    val_main_v175 (F := Ideal) x1 x2 x4 x5 (ix5 b g p s k) =
      Ideal.div (val_main_v171 (F := Ideal) x1 x2 x4 x5 (ix5 b g p s k)) (∑ j, val_main_v171 (F := Ideal) x1 x2 x4 x5 (ix5 b g p s j)) := by
  pointwise [val_main_v175, val_main_v174, val_main_v173, val_main_v172, val_main_cst_25]

theorem v_split (b : Fin 32) (h : Fin 2) (s : Fin 2048) (d : Fin 64) :
    val_main_v160 (F := Ideal) x3 (ix4 b h s d) = x3 (ix3 b s (⟨64 * h.val + d.val, by omega⟩ : Fin 128)) := by
  pointwise [val_main_v160, val_main_v159]
  exact congrArg (fun e => x3 (ix3 b s e)) (Fin.ext (by dsimp only; omega))

theorem ref_head (b : Fin 32) (g p : Fin 2) (s : Fin 2048) (d : Fin 64) :
    val_main_v176 (F := Ideal) x1 x2 x3 x4 x5 (ix5 b g p s d) =
      ∑ k : Fin 2048, val_main_v175 (F := Ideal) x1 x2 x4 x5 (ix5 b g p s k) * x3 (ix3 b k (⟨64 * g.val + d.val, by omega⟩ : Fin 128)) := by
  rw [val_main_v176_apply]
  refine Finset.sum_congr rfl fun k _ => ?_
  rw [show lidx_main_v176 (ix5 b g p s d) k = ix5 b g p s k from by idx_ext,
      show ridx_main_v176 (ix5 b g p s d) k = ix4 b g k d from by idx_ext, v_split]

theorem ref_result (b : Fin 32) (s : Fin 2048) (g p : Fin 2) (d : Fin 64) :
    val_main_v180 (F := Ideal) x1 x2 x3 x4 x5 (ix3 b s (⟨128 * g.val + 64 * p.val + d.val, by omega⟩ : Fin 256)) =
      val_main_v176 (F := Ideal) x1 x2 x3 x4 x5 (ix5 b g p s d) := by
  pointwise [val_main_v180, val_main_v179, val_main_v178, val_main_v177]

end Cert.Proof.GqaRef
-- ==== Proof.GqaValue.lean ====
/- The attention call against its reference: the array that the call returns is the reference's. -/
module

public import proofs.«01_k».proof.Proof.GqaScore
public import proofs.«01_k».proof.Proof.GqaSoft
public import proofs.«01_k».proof.Proof.GqaLaunch
public import proofs.«01_k».proof.Proof.Gen.ReferenceIdeal.Run
public import proofs.«01_k».proof.Proof.Gen.Pre_finite_arrays
public import proofs.«01_k».proof.Defs

@[expose] public section

set_option maxRecDepth 16384

noncomputable section

namespace Cert.Proof.GqaValue

open Idealize.ShloMosaic Idealize.ShloMosaic.TcCoe Idealize.SL.Sem
open Cert.KernelIdeal Cert.KernelIdeal.Gen
open Cert.Proof.Gqa Cert.Proof.GqaHost Cert.Proof.GqaLaunch
open Cert.ReferenceIdeal.Read

/-- What the finiteness test says. -/
theorem of_pre (x0 : FVec Ideal Cert.Pre_finite_arrays.S32x2048x2048 .f32) (x1 : FVec Ideal Cert.Pre_finite_arrays.S32x2048x256 .f32)
    (x2 x3 : FVec Ideal Cert.Pre_finite_arrays.S32x2048x128 .f32) (x4 x5 : FVec Ideal Cert.Pre_finite_arrays.S64 .f32)
    (h : Cert.Pre_finite_arrays.fn (F := Ideal) x0 x1 x2 x3 x4 x5 = fun _ => 1#1) :
    (∀ b s k, ∃ r : ℝ, x1 (ix3 b s k) = (r : EReal)) ∧ (∀ b s k, ∃ r : ℝ, x2 (ix3 b s k) = (r : EReal))
      ∧ (∀ b s k, ∃ r : ℝ, x3 (ix3 b s k) = (r : EReal)) ∧ (∀ k, ∃ r : ℝ, x4 (ix1 k) = (r : EReal)) ∧ ∀ k, ∃ r : ℝ, x5 (ix1 k) = (r : EReal) := by
  have h0 := congrFun h (fun a => a.elim0)
  haveI : Subsingleton Cert.Pre_finite_arrays.S_.Idx := ⟨fun a b => funext fun i => i.elim0⟩
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  exact ⟨fun b s k => real_of_test _ (Host.reduce_andi_all _ _ _ _ _ h1 (ix3 b s k)), fun b s k => real_of_test _ (Host.reduce_andi_all _ _ _ _ _ h2 (ix3 b s k)),
    fun b s k => real_of_test _ (Host.reduce_andi_all _ _ _ _ _ h3 (ix3 b s k)), fun k => real_of_test _ (Host.reduce_andi_all _ _ _ _ _ h4 (ix1 k)),
    fun k => real_of_test _ (Host.reduce_andi_all _ _ _ _ _ h5 (ix1 k))⟩

theorem bits_base : ∃ r : ℝ, Ideal.ofBits .f32 0x461C4000#32 = (r : EReal) :=
  ⟨_, by simp [Ideal.ofBits, Ideal.ieee, -EReal.coe_mul]; rfl⟩

theorem bits_two : ∃ r : ℝ, Ideal.ofBits .f32 0x40000000#32 = (r : EReal) :=
  ⟨_, by simp [Ideal.ofBits, Ideal.ieee, -EReal.coe_mul]; rfl⟩

theorem bits_32 : Ideal.ofBits .f32 0x42000000#32 = ((32 : ℝ) : EReal) := by
  simp [Ideal.ofBits, Ideal.ieee, -EReal.coe_mul]; norm_num

theorem bits_eighth : Ideal.ofBits .f32 0x3E000000#32 = ((1 / 8 : ℝ) : EReal) := by
  simp [Ideal.ofBits, Ideal.ieee, -EReal.coe_mul]; norm_num

theorem ang_real (s d : ℕ) : ∃ r : ℝ, ang s d = (r : EReal) := by
  obtain ⟨a, ha⟩ := bits_base
  obtain ⟨b, hb⟩ := bits_two
  unfold ang
  rw [ha, hb, bits_32, show FloatOps.sitofp (F := Ideal) .f32 (BitVec.ofNat 32 (d % 16)) = (((BitVec.ofNat 32 (d % 16)).toInt : ℝ) : EReal) from rfl,
    show FloatOps.sitofp (F := Ideal) .f32 (BitVec.ofNat 32 (if d < 32 then s / 64 else s % 64)) = (((BitVec.ofNat 32 (if d < 32 then s / 64 else s % 64)).toInt : ℝ) : EReal) from rfl,
    ← EReal.coe_mul, ← EReal.coe_neg, div_real _ _ (by norm_num)]
  exact ⟨_, (EReal.coe_mul _ _).symm⟩

theorem cos_real (s d : ℕ) : ∃ r : ℝ, Ideal.cos (ang s d) = (r : EReal) := by
  obtain ⟨a, ha⟩ := ang_real s d
  rw [ha]; exact ⟨_, rfl⟩

theorem sin_real (s d : ℕ) : ∃ r : ℝ, Ideal.sin (ang s d) = (r : EReal) := by
  obtain ⟨a, ha⟩ := ang_real s d
  rw [ha]; exact ⟨_, rfl⟩

variable (m : (ℓ : Loc nD τ sig) → Buf (Elt Ideal) ℓ) (c : Dev nD)

abbrev qx : S32x2048x256.Idx → EReal := m ((c : Thread nD τ).loc main_arg1)
abbrev kx : S32x2048x128.Idx → EReal := m ((c : Thread nD τ).loc main_arg2)
abbrev vx : S32x2048x128.Idx → EReal := m ((c : Thread nD τ).loc main_arg3)

/-- The arrays of the call are real. -/
structure Reals : Prop where
  q : ∀ b s k, ∃ r : ℝ, qx m c (ix3 b s k) = (r : EReal)
  k : ∀ b s k, ∃ r : ℝ, kx m c (ix3 b s k) = (r : EReal)
  v : ∀ b s k, ∃ r : ℝ, vx m c (ix3 b s k) = (r : EReal)
  qg : ∀ k, ∃ r : ℝ, GqaHost.qg m c (ix1 k) = (r : EReal)
  kg : ∀ k, ∃ r : ℝ, GqaHost.kg m c (ix1 k) = (r : EReal)

/-- The query of head `h` at position `s`, normed and rotated. -/
def qr (b : Fin 32) (h : Fin 4) (s : Fin 2048) (d : Fin 64) : EReal :=
  roped (fun k => qx m c (ix3 b s (⟨64 * h.val + k.val, by omega⟩ : Fin 256))) (fun k => GqaHost.qg m c (ix1 k)) (Ideal.cos (ang s.val d.val)) (Ideal.sin (ang s.val d.val)) d

/-- The key of head `h` at position `s`, normed and rotated. -/
def kr (b : Fin 32) (h : Fin 2) (s : Fin 2048) (d : Fin 64) : EReal :=
  roped (fun k => kx m c (ix3 b s (⟨64 * h.val + k.val, by omega⟩ : Fin 128))) (fun k => GqaHost.kg m c (ix1 k)) (Ideal.cos (ang s.val d.val)) (Ideal.sin (ang s.val d.val)) d

theorem qr_real (H : Reals m c) (b : Fin 32) (h : Fin 4) (s : Fin 2048) (d : Fin 64) : ∃ r : ℝ, qr m c b h s d = (r : EReal) :=
  roped_real _ _ _ _ _ (fun _ => H.q _ _ _) (fun _ => H.qg _) (cos_real _ _) (sin_real _ _)

theorem kr_real (H : Reals m c) (b : Fin 32) (h : Fin 2) (s : Fin 2048) (d : Fin 64) : ∃ r : ℝ, kr m c b h s d = (r : EReal) :=
  roped_real _ _ _ _ _ (fun _ => H.k _ _ _) (fun _ => H.kg _) (cos_real _ _) (sin_real _ _)

theorem q_entry (H : Reals m c) (t : Fin cfg0.N) (h : Fin 4) (s : Fin 2048) (e : Fin 128) :
    qEnt (iblk m c 0 t) (iblk m c 3 t) (iblk m c 4 t) ⟨s.val / 256, by omega⟩ h e ⟨s.val % 256, by omega⟩ =
      if e.val / 64 = h.val / 2 then qr m c ⟨t.val, t.isLt⟩ h s ⟨e.val % 64, by omega⟩ * (((1 / 8) * (Real.log 2)⁻¹ : ℝ) : EReal) else 0 := by
  unfold qEnt
  refine if_congr Iff.rfl ?_ rfl
  rw [show (fun k : Fin 64 => (iblk m c 0 t : S1x2048x256.Idx → EReal) (ix3 (0 : Fin 1) (⟨256 * (s.val / 256) + s.val % 256, by omega⟩ : Fin 2048) (⟨64 * h.val + k.val, by omega⟩ : Fin 256)))
      = fun k => qx m c (ix3 ⟨t.val, t.isLt⟩ s (⟨64 * h.val + k.val, by omega⟩ : Fin 256)) from funext fun k => by
        simp only [Nat.div_add_mod]
        exact read0 m c t s _, read3, read4]
  simp only [show (64 * (h.val % 2) + e.val % 64) % 64 = e.val % 64 from by omega,
    show sgn (64 * (h.val % 2) + e.val % 64) = if e.val % 64 % 32 < 16 then -1 else 1 from if_congr (by rw [show (64 * (h.val % 2) + e.val % 64) % 32 = e.val % 64 % 32 from by omega]) rfl rfl]
  exact qv_roped _ (fun k => GqaHost.qg m c (ix1 k)) _ _ _ (fun _ => H.q _ _ _) (fun _ => H.qg _) (cos_real _ _) (sin_real _ _)

theorem k_entry (H : Reals m c) (t : Fin cfg0.N) (s : Fin 2048) (e : Fin 128) :
    kEnt (iblk m c 1 t) (iblk m c 5 t) (iblk m c 6 t) s e = kr m c ⟨t.val, t.isLt⟩ ⟨e.val / 64, by omega⟩ s ⟨e.val % 64, by omega⟩ := by
  unfold kEnt
  rw [show (fun k : Fin 64 => (iblk m c 1 t : S1x2048x128.Idx → EReal) (ix3 (0 : Fin 1) s (⟨64 * (e.val / 64) + k.val, by omega⟩ : Fin 128)))
      = fun k => kx m c (ix3 ⟨t.val, t.isLt⟩ s (⟨64 * (e.val / 64) + k.val, by omega⟩ : Fin 128)) from funext fun k => read1 m c t s _, read5, read6,
    show sgn e.val = if e.val % 64 % 32 < 16 then -1 else 1 from if_congr (by rw [show e.val % 32 = e.val % 64 % 32 from by omega]) rfl rfl]
  exact kv_roped _ (fun k => GqaHost.kg m c (ix1 k)) _ _ _ (fun _ => H.k _ _ _) (fun _ => H.kg _) (cos_real _ _) (sin_real _ _)

/-- The kernel's score. -/
theorem score_eq (H : Reals m c) (t : Fin cfg0.N) (h : Fin 4) (g : Fin 2) (hg : g.val = h.val / 2) (s n : Fin 2048) :
    sc (qArr (iblk m c 0 t) (iblk m c 3 t) (iblk m c 4 t)) (kArr (iblk m c 1 t) (iblk m c 5 t) (iblk m c 6 t)) ⟨s.val / 256, by omega⟩ h ⟨s.val % 256, by omega⟩ n =
      ∑ d : Fin 64, kr m c ⟨t.val, t.isLt⟩ g n d * (qr m c ⟨t.val, t.isLt⟩ h s d * (((1 / 8) * (Real.log 2)⁻¹ : ℝ) : EReal)) := by
  have hl : ∀ l : Fin 128, (kArr (iblk m c 1 t) (iblk m c 5 t) (iblk m c 6 t) (ix2 n l) : EReal)
        * (qArr (iblk m c 0 t) (iblk m c 3 t) (iblk m c 4 t) (ix3 (⟨s.val / 256, by omega⟩ : Fin 8) (⟨128 * h.val + l.val, by omega⟩ : Fin 512) (⟨s.val % 256, by omega⟩ : Fin 256)) : EReal)
      = kr m c ⟨t.val, t.isLt⟩ ⟨l.val / 64, by omega⟩ n ⟨l.val % 64, by omega⟩
        * if l.val / 64 = h.val / 2 then qr m c ⟨t.val, t.isLt⟩ h s ⟨l.val % 64, by omega⟩ * (((1 / 8) * (Real.log 2)⁻¹ : ℝ) : EReal) else 0 := fun l => by
    refine congrArg₂ (fun u v : EReal => u * v) (k_entry m c H t n l) ((Eq.trans ?_ (q_entry m c H t h s l)))
    show qEnt _ _ _ _ (⟨(128 * h.val + l.val) / 128, _⟩ : Fin 4) (⟨(128 * h.val + l.val) % 128, _⟩ : Fin 128) _ = _
    simp only [show (128 * h.val + l.val) / 128 = h.val from by omega, show (128 * h.val + l.val) % 128 = l.val from by omega]
    rfl
  unfold sc
  simp only [hl]
  rw [sum_lanes _ g fun l hlg => by rw [if_neg (by omega), mul_zero]]
  refine Finset.sum_congr rfl fun d _ => ?_
  simp only [show (64 * g.val + d.val) / 64 = g.val from by omega, show (64 * g.val + d.val) % 64 = d.val from by omega, if_pos hg]

/-- The call's output entry and the reference's are the same softmax. -/
theorem entry_eq (H : Reals m c) (t : Fin cfg0.N) (s : Fin 2048) (g p : Fin 2) (d : Fin 64) :
    outOf (qArr (iblk m c 0 t) (iblk m c 3 t) (iblk m c 4 t)) (kArr (iblk m c 1 t) (iblk m c 5 t) (iblk m c 6 t)) (vArr (iblk m c 2 t)) (ix3 0 s (⟨128 * g.val + 64 * p.val + d.val, by omega⟩ : Fin 256)) =
      val_main_v180 (F := Ideal) (qx m c) (kx m c) (vx m c) (GqaHost.qg m c) (GqaHost.kg m c) (ix3 ⟨t.val, t.isLt⟩ s (⟨128 * g.val + 64 * p.val + d.val, by omega⟩ : Fin 256)) := by
  choose Qr hQ using qr_real m c H ⟨t.val, t.isLt⟩ ⟨2 * g.val + p.val, by omega⟩ s
  choose Kr hK using kr_real m c H ⟨t.val, t.isLt⟩ g
  choose Vr hV using fun n => H.v ⟨t.val, t.isLt⟩ n ⟨64 * g.val + d.val, by omega⟩
  have hker : outOf (qArr (iblk m c 0 t) (iblk m c 3 t) (iblk m c 4 t)) (kArr (iblk m c 1 t) (iblk m c 5 t) (iblk m c 6 t)) (vArr (iblk m c 2 t)) (ix3 0 s (⟨128 * g.val + 64 * p.val + d.val, by omega⟩ : Fin 256))
      = (soft (fun n => (∑ d, Qr d * Kr n d) * (1 / 8)) Vr : EReal) := by
    show out (F := Ideal) _ _ _ (⟨s.val / 256, _⟩ : Fin 8) (ix3 0 (⟨s.val % 256, _⟩ : Fin 256) (⟨128 * g.val + 64 * p.val + d.val, _⟩ : Fin 256)) = _
    refine out_soft _ _ _ ⟨s.val / 256, by omega⟩ ⟨2 * g.val + p.val, by omega⟩ ⟨s.val % 256, by omega⟩ g d _ (by dsimp only; omega) (by dsimp only; omega) _ _ (fun n => ?_) (fun n => ?_) (fun n => ?_)
    · rw [score_eq m c H t _ g (by dsimp only; omega) s n]
      simp only [hQ, hK, ← EReal.coe_mul, coe_sum]
      refine congrArg _ ?_
      rw [Finset.sum_mul, Finset.sum_mul]
      exact Finset.sum_congr rfl fun d _ => by ring
    · refine Eq.trans ?_ (hV n)
      show vEnt (iblk m c 2 t) g (⟨n.val / 256, _⟩ : Fin 8) (⟨d.val, _⟩ : Fin 80) (⟨n.val % 256, _⟩ : Fin 256) = _
      unfold vEnt
      rw [dif_pos (show d.val < 64 from d.isLt)]
      simp only [Nat.div_add_mod]
      exact read2 m c t n _
    · show vEnt (iblk m c 2 t) g (⟨n.val / 256, _⟩ : Fin 8) (64 : Fin 80) (⟨n.val % 256, _⟩ : Fin 256) = _
      unfold vEnt
      rw [dif_neg (by decide), if_pos (by decide)]
  have hs : ∀ n, val_main_v164 (F := Ideal) (qx m c) (kx m c) (GqaHost.qg m c) (GqaHost.kg m c) (ix5 (⟨t.val, t.isLt⟩ : Fin 32) g p s n) = (((∑ d, Qr d * Kr n d) * (1 / 8) : ℝ) : EReal) := fun n => by
    rw [GqaRef.ref_score, bits_eighth, EReal.coe_mul, ← coe_sum]
    refine congrArg (fun u : EReal => u * ((1 / 8 : ℝ) : EReal)) (Finset.sum_congr rfl fun d _ => ?_)
    rw [GqaRef.q_rope, GqaRef.k_rope, EReal.coe_mul, ← hQ, ← hK]
    rfl
  obtain ⟨M, hM⟩ : ∃ M : ℝ, val_main_v167 (F := Ideal) (qx m c) (kx m c) (GqaHost.qg m c) (GqaHost.kg m c) (ix4 (⟨t.val, t.isLt⟩ : Fin 32) g p s) = (M : EReal) := by
    obtain ⟨M, hM⟩ := fold_max_real (fun n => val_main_v164 (F := Ideal) (qx m c) (kx m c) (GqaHost.qg m c) (GqaHost.kg m c) (ix5 (⟨t.val, t.isLt⟩ : Fin 32) g p s n)) fun n => ⟨_, hs n⟩
    exact ⟨M, by rw [GqaRef.ref_max, GqaRef.ref_rowmax _ _ _ _ _ _ _ _ _ hM, bits_bot]; exact max_eq_right bot_le⟩
  rw [hker, GqaRef.ref_result, GqaRef.ref_head]
  simp only [GqaRef.ref_quot, GqaRef.ref_weight, hs, hM, hV]
  exact (soft_ref _ Vr M).symm

/-- The call's output block is the reference's, read at the block's place in the whole array. -/
theorem block_ref (H : Reals m c) (t : Fin cfg0.N) (s : Fin 2048) (e : Fin 256) :
    outArr (iblk m c 0 t) (iblk m c 1 t) (iblk m c 2 t) (iblk m c 3 t) (iblk m c 4 t) (iblk m c 5 t) (iblk m c 6 t) (ix3 0 s e) =
      val_main_v180 (F := Ideal) (qx m c) (kx m c) (vx m c) (GqaHost.qg m c) (GqaHost.kg m c) (ix3 ⟨t.val, t.isLt⟩ s e) := by
  have h := entry_eq m c H t s ⟨e.val / 128, by omega⟩ ⟨e.val / 64 % 2, by omega⟩ ⟨e.val % 64, by omega⟩
  simp only [show 128 * (e.val / 128) + 64 * (e.val / 64 % 2) + e.val % 64 = e.val from by omega] at h
  exact h

theorem keys_real (H : ∀ c, Reals m c) : KeysReal m := fun c t s k => by
  rw [read1]; exact (H c).k _ _ _

theorem final (H : Reals m c) : (dats m 0 c).arrAt 7 cfg0.N = val_main_v180 (F := Ideal) (qx m c) (kx m c) (vx m c) (GqaHost.qg m c) (GqaHost.kg m c) := by
  refine (dats m 0 c).arrAt_eq_of_covers 7 _ (by decide +kernel) fun t _ y => ?_
  blk_simp
  rw [after_7]
  rw [show y = ix3 (0 : Fin 1) (y 1 : Fin 2048) (y 2 : Fin 256) from by idx_ext]
  refine (block_ref m c H t _ _).trans ?_
  refine congrArg _ ?_
  blk_ext [idx t]

theorem value : Cert.algebraic_KernelIdeal_ReferenceIdeal := by
  intro m g m' g' hpre hargs
  have H : ∀ c, Reals m c := fun c => by
    obtain ⟨h1, h2, h3, h4, h5⟩ := of_pre _ _ _ _ _ _ (hpre c)
    exact ⟨h1, h2, h3, h4, h5⟩
  refine ⟨fun c => (dats m 0 c).arrAt 7 cfg0.N, run_blocks m g (keys_real m H),
    (θ_run _ _ _).mono (fun r h c => ⟨(h c).1.trans ?_, (h c).2⟩) (Cert.ReferenceIdeal.Value.run m' g')⟩
  obtain ⟨h0, h1, h2, h3, h4, h5⟩ := hargs c
  rw [Cert.ReferenceIdeal.Read.val_main_v180_eq,
    show StableHlo.launchContents m' c (Proc.tc.devRef Cert.ReferenceIdeal.main_arg1) = qx m c from h1,
    show StableHlo.launchContents m' c (Proc.tc.devRef Cert.ReferenceIdeal.main_arg2) = kx m c from h2,
    show StableHlo.launchContents m' c (Proc.tc.devRef Cert.ReferenceIdeal.main_arg3) = vx m c from h3,
    show StableHlo.launchContents m' c (Proc.tc.devRef Cert.ReferenceIdeal.main_arg4) = GqaHost.qg m c from h4,
    show StableHlo.launchContents m' c (Proc.tc.devRef Cert.ReferenceIdeal.main_arg5) = GqaHost.kg m c from h5]
  exact (final m c (H c)).symm

end Cert.Proof.GqaValue
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Pre_finite_arrays
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Proof.Gen.ReferenceIdeal.Read
public import proofs.«01_k».proof.Proof.Gen.Reference2Ideal.Read
public import proofs.«01_k».proof.Proof.Gen.Reference3Ideal.Read
public import proofs.«01_k».proof.Proof.KernelFrame
public import proofs.«01_k».proof.Proof.KernelIdealFrame
public import proofs.«01_k».proof.Proof.PostValue
public import proofs.«01_k».proof.Proof.InprojValue
public import proofs.«01_k».proof.Proof.GqaValue
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite_arrays.Gen.facts, Cert.Proof.Weights.facts,
  fun m ρ _ => Cert.Proof.KernelFrame.frame m ρ,
  fun m ρ _ => Cert.Proof.KernelIdealFrame.frame m ρ,
  fun m ρ _ => (θ_run Cert.ReferenceIdeal.defs _ _).mono (fun r h => ⟨fun c => (h c).2, sem_eq_zero_of_no_sems (by decide) r.2⟩)
    (Cert.ReferenceIdeal.Value.run m ρ),
  fun m ρ _ => Cert.Kernel2.Gen.frame m ρ,
  fun m ρ _ => Cert.Kernel2Ideal.Gen.frame m ρ,
  fun m ρ _ => (θ_run Cert.Reference2Ideal.defs _ _).mono (fun r h => ⟨fun c => (h c).2, sem_eq_zero_of_no_sems (by decide) r.2⟩)
    (Cert.Reference2Ideal.Value.run m ρ),
  fun m ρ _ => Cert.Kernel3.Gen.frame m ρ,
  fun m ρ _ => Cert.Kernel3Ideal.Gen.frame m ρ,
  fun m ρ _ => (θ_run Cert.Reference3Ideal.defs _ _).mono (fun r h => ⟨fun c => (h c).2, sem_eq_zero_of_no_sems (by decide) r.2⟩)
    (Cert.Reference3Ideal.Value.run m ρ),
  IdealRules.named_const.statement Cert.KernelIdeal.κ "q_scale" .f32 0x3E38AA3B#32 (((1 / 8) * (Real.log 2)⁻¹ : ℝ) : EReal) rfl,
  Cert.Proof.GqaValue.value, trivial, Cert.Proof.Post.value, trivial, Cert.Proof.Inproj.value⟩

end Cert.Proof

end
